-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_finite [hPre_weights_finite : Cert.Pre_weights_finite.Facts] (m : (ℓ : Loc Cert.KernelIdeal.nD Cert.KernelIdeal.τ Cert.KernelIdeal.sig) → Buf (Elt Ideal) ℓ) : Prop :=
  ∀ c : Dev Cert.KernelIdeal.nD,
    (Cert.Pre_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).1 = (fun _ => 1#1)
    ∧ (Cert.Pre_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.1 = (fun _ => 1#1)
    ∧ (Cert.Pre_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.1 = (fun _ => 1#1)
    ∧ (Cert.Pre_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.1 = (fun _ => 1#1)
    ∧ (Cert.Pre_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.1 = (fun _ => 1#1)
    ∧ (Cert.Pre_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.1 = (fun _ => 1#1)
    ∧ (Cert.Pre_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.1 = (fun _ => 1#1)
    ∧ (Cert.Pre_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.1 = (fun _ => 1#1)
    ∧ (Cert.Pre_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.1 = (fun _ => 1#1)
    ∧ (Cert.Pre_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_finite [hPre_weights_finite : Cert.Pre_weights_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).1 = (fun _ => 1#1)
    ∧ (Cert.Pre_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.1 = (fun _ => 1#1)
    ∧ (Cert.Pre_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.1 = (fun _ => 1#1)
    ∧ (Cert.Pre_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.1 = (fun _ => 1#1)
    ∧ (Cert.Pre_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.1 = (fun _ => 1#1)
    ∧ (Cert.Pre_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.1 = (fun _ => 1#1)
    ∧ (Cert.Pre_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.1 = (fun _ => 1#1)
    ∧ (Cert.Pre_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.1 = (fun _ => 1#1)
    ∧ (Cert.Pre_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.1 = (fun _ => 1#1)
    ∧ (Cert.Pre_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_KernelIdeal_pre_weights_finite [hKernelIdeal : Cert.KernelIdeal.Facts] [hPre_weights_finite : Cert.Pre_weights_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def quiescent_ReferenceIdeal_pre_weights_finite [hReferenceIdeal : Cert.ReferenceIdeal.Facts] [hPre_weights_finite : Cert.Pre_weights_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def preserves_Kernel_KernelIdeal : Prop :=
  True

def algebraic_KernelIdeal_ReferenceIdeal_pre_weights_finite [hKernelIdeal : Cert.KernelIdeal.Facts] [hReferenceIdeal : Cert.ReferenceIdeal.Facts] [hPre_weights_finite : Cert.Pre_weights_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v17_2)) (v1 : (c : Dev Cert.KernelIdeal.nD) → Buf (Elt Ideal) ((c.tc : Thread Cert.KernelIdeal.nD Cert.KernelIdeal.τ).loc Cert.KernelIdeal.main_v17_3)) (v2 : (c : Dev Cert.KernelIdeal.nD) → Buf (Elt Ideal) ((c.tc : Thread Cert.KernelIdeal.nD Cert.KernelIdeal.τ).loc Cert.KernelIdeal.main_v18)) (v3 : (c : Dev Cert.KernelIdeal.nD) → Buf (Elt Ideal) ((c.tc : Thread Cert.KernelIdeal.nD Cert.KernelIdeal.τ).loc Cert.KernelIdeal.main_v19)) (v4 : (c : Dev Cert.KernelIdeal.nD) → Buf (Elt Ideal) ((c.tc : Thread Cert.KernelIdeal.nD Cert.KernelIdeal.τ).loc Cert.KernelIdeal.main_v20)) (v5 : (c : Dev Cert.KernelIdeal.nD) → Buf (Elt Ideal) ((c.tc : Thread Cert.KernelIdeal.nD Cert.KernelIdeal.τ).loc Cert.KernelIdeal.main_v17_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_2) = v0 c
          ∧ r.2.mem ((c.tc : Thread Cert.KernelIdeal.nD Cert.KernelIdeal.τ).loc Cert.KernelIdeal.main_v17_3) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_v19) = v3 c
          ∧ r.2.mem ((c.tc : Thread Cert.KernelIdeal.nD Cert.KernelIdeal.τ).loc Cert.KernelIdeal.main_v20) = v4 c
          ∧ r.2.mem ((c.tc : Thread Cert.KernelIdeal.nD Cert.KernelIdeal.τ).loc Cert.KernelIdeal.main_v17_1) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v140) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_v141) = v3 c
          ∧ r.2.mem ((c.tc : Thread Cert.ReferenceIdeal.nD Cert.ReferenceIdeal.τ).loc Cert.ReferenceIdeal.main_v142) = v4 c
          ∧ r.2.mem ((c.tc : Thread Cert.ReferenceIdeal.nD Cert.ReferenceIdeal.τ).loc Cert.ReferenceIdeal.main_v84) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_weights_finite : Cert.Pre_weights_finite.Facts),
    quiescent_Kernel (hKernel := hKernel)
    ∧ quiescent_KernelIdeal (hKernelIdeal := hKernelIdeal)
    ∧ quiescent_KernelIdeal_pre_weights_finite (hKernelIdeal := hKernelIdeal) (hPre_weights_finite := hPre_weights_finite)
    ∧ quiescent_ReferenceIdeal (hReferenceIdeal := hReferenceIdeal)
    ∧ quiescent_ReferenceIdeal_pre_weights_finite (hReferenceIdeal := hReferenceIdeal) (hPre_weights_finite := hPre_weights_finite)
    ∧ preserves_Kernel_KernelIdeal
    ∧ algebraic_KernelIdeal_ReferenceIdeal_pre_weights_finite (hKernelIdeal := hKernelIdeal) (hReferenceIdeal := hReferenceIdeal) (hPre_weights_finite := hPre_weights_finite)
-- ==== Pre_weights_finite.lean ====
abbrev S1x4x4096x1024 : Shape := ⟨4, ![1, 4, 4096, 1024]⟩
abbrev S1024x1024 : Shape := ⟨2, ![1024, 1024]⟩
abbrev S128x1024 : Shape := ⟨2, ![128, 1024]⟩
abbrev S128 : Shape := ⟨1, ![128]⟩
abbrev S1x128 : Shape := ⟨2, ![1, 128]⟩
abbrev S1 : Shape := ⟨1, ![1]⟩
abbrev S4x128 : Shape := ⟨2, ![4, 128]⟩
abbrev S4 : Shape := ⟨1, ![4]⟩
abbrev S4x2x1024 : Shape := ⟨3, ![4, 2, 1024]⟩
abbrev S4x2 : Shape := ⟨2, ![4, 2]⟩
abbrev S2x1024 : Shape := ⟨2, ![2, 1024]⟩
abbrev S2 : Shape := ⟨1, ![2]⟩
abbrev S_ : Shape := ⟨0, ![]⟩

class Facts : Prop where
  bcast_S_S1024x1024 : S_.BroadcastsInDim S1024x1024 (![] : Fin 0 → Fin S1024x1024.rank)
  bcast_S_S128x1024 : S_.BroadcastsInDim S128x1024 (![] : Fin 0 → Fin S128x1024.rank)
  bcast_S_S1x128 : S_.BroadcastsInDim S1x128 (![] : Fin 0 → Fin S1x128.rank)
  bcast_S_S1 : S_.BroadcastsInDim S1 (![] : Fin 0 → Fin S1.rank)

variable [Facts]

def fn_part1 {F : FTy → Type} [FloatOps F] (main_arg7 : FVec F S1x128 .f32) (main_arg8 : FVec F S1 .f32) (main_arg15 : FVec F S128x1024 .f32) (main_arg17 : FVec F S128x1024 .f32) (main_v2 : IVec S1024x1024 1) (main_v5 : IVec S1024x1024 1) (main_v8 : IVec S128x1024 1) (main_v11 : IVec S128x1024 1) (main_v14 : IVec S128x1024 1) (main_v17 : IVec S128x1024 1) : IVec S1024x1024 1 × IVec S1024x1024 1 × IVec S128x1024 1 × IVec S128x1024 1 × IVec S128x1024 1 × IVec S128x1024 1 × IVec S128x1024 1 × IVec S128x1024 1 × IVec S1x128 1 × IVec S1 1 :=
  let main_v18 : FVec F S128x1024 .f32 := subf main_arg15 main_arg15
  let main_cst_5 : FVec F S_ .f32 := constant S_ .f32 0x00000000#32
  let main_v19 : FVec F S128x1024 .f32 := broadcastInDim S128x1024 ![] bcast_S_S128x1024 main_cst_5
  let main_v20 : IVec S128x1024 1 := cmpf .oeq main_v18 main_v19
  let main_v21 : FVec F S128x1024 .f32 := subf main_arg17 main_arg17
  let main_cst_6 : FVec F S_ .f32 := constant S_ .f32 0x00000000#32
  let main_v22 : FVec F S128x1024 .f32 := broadcastInDim S128x1024 ![] bcast_S_S128x1024 main_cst_6
  let main_v23 : IVec S128x1024 1 := cmpf .oeq main_v21 main_v22
  let main_v24 : FVec F S1x128 .f32 := subf main_arg7 main_arg7
  let main_cst_7 : FVec F S_ .f32 := constant S_ .f32 0x00000000#32
  let main_v25 : FVec F S1x128 .f32 := broadcastInDim S1x128 ![] bcast_S_S1x128 main_cst_7
  let main_v26 : IVec S1x128 1 := cmpf .oeq main_v24 main_v25
  let main_v27 : FVec F S1 .f32 := subf main_arg8 main_arg8
  let main_cst_8 : FVec F S_ .f32 := constant S_ .f32 0x00000000#32
  let main_v28 : FVec F S1 .f32 := broadcastInDim S1 ![] bcast_S_S1 main_cst_8
  let main_v29 : IVec S1 1 := cmpf .oeq main_v27 main_v28
  (main_v2, main_v5, main_v8, main_v11, main_v14, main_v17, main_v20, main_v23, main_v26, main_v29)

def fn {F : FTy → Type} [FloatOps F] (main_arg0 : FVec F S1x4x4096x1024 .f32) (main_arg1 : FVec F S1024x1024 .f32) (main_arg2 : FVec F S1024x1024 .f32) (main_arg3 : FVec F S128x1024 .f32) (main_arg4 : FVec F S128 .f32) (main_arg5 : FVec F S128x1024 .f32) (main_arg6 : FVec F S128 .f32) (main_arg7 : FVec F S1x128 .f32) (main_arg8 : FVec F S1 .f32) (main_arg9 : FVec F S128x1024 .f32) (main_arg10 : FVec F S128 .f32) (main_arg11 : FVec F S128x1024 .f32) (main_arg12 : FVec F S128 .f32) (main_arg13 : FVec F S4x128 .f32) (main_arg14 : FVec F S4 .f32) (main_arg15 : FVec F S128x1024 .f32) (main_arg16 : FVec F S128 .f32) (main_arg17 : FVec F S128x1024 .f32) (main_arg18 : FVec F S128 .f32) (main_arg19 : FVec F S1x128 .f32) (main_arg20 : FVec F S1 .f32) (main_arg21 : FVec F S4x2x1024 .f32) (main_arg22 : FVec F S4x2 .f32) (main_arg23 : FVec F S2x1024 .f32) (main_arg24 : FVec F S2 .f32) : IVec S1024x1024 1 × IVec S1024x1024 1 × IVec S128x1024 1 × IVec S128x1024 1 × IVec S128x1024 1 × IVec S128x1024 1 × IVec S128x1024 1 × IVec S128x1024 1 × IVec S1x128 1 × IVec S1 1 :=
  let main_v0 : FVec F S1024x1024 .f32 := subf main_arg1 main_arg1
  let main_cst : FVec F S_ .f32 := constant S_ .f32 0x00000000#32
  let main_v1 : FVec F S1024x1024 .f32 := broadcastInDim S1024x1024 ![] bcast_S_S1024x1024 main_cst
  let main_v2 : IVec S1024x1024 1 := cmpf .oeq main_v0 main_v1
  let main_v3 : FVec F S1024x1024 .f32 := subf main_arg2 main_arg2
  let main_cst_0 : FVec F S_ .f32 := constant S_ .f32 0x00000000#32
  let main_v4 : FVec F S1024x1024 .f32 := broadcastInDim S1024x1024 ![] bcast_S_S1024x1024 main_cst_0
  let main_v5 : IVec S1024x1024 1 := cmpf .oeq main_v3 main_v4
  let main_v6 : FVec F S128x1024 .f32 := subf main_arg3 main_arg3
  let main_cst_1 : FVec F S_ .f32 := constant S_ .f32 0x00000000#32
  let main_v7 : FVec F S128x1024 .f32 := broadcastInDim S128x1024 ![] bcast_S_S128x1024 main_cst_1
  let main_v8 : IVec S128x1024 1 := cmpf .oeq main_v6 main_v7
  let main_v9 : FVec F S128x1024 .f32 := subf main_arg5 main_arg5
  let main_cst_2 : FVec F S_ .f32 := constant S_ .f32 0x00000000#32
  let main_v10 : FVec F S128x1024 .f32 := broadcastInDim S128x1024 ![] bcast_S_S128x1024 main_cst_2
  let main_v11 : IVec S128x1024 1 := cmpf .oeq main_v9 main_v10
  let main_v12 : FVec F S128x1024 .f32 := subf main_arg9 main_arg9
  let main_cst_3 : FVec F S_ .f32 := constant S_ .f32 0x00000000#32
  let main_v13 : FVec F S128x1024 .f32 := broadcastInDim S128x1024 ![] bcast_S_S128x1024 main_cst_3
  let main_v14 : IVec S128x1024 1 := cmpf .oeq main_v12 main_v13
  let main_v15 : FVec F S128x1024 .f32 := subf main_arg11 main_arg11
  let main_cst_4 : FVec F S_ .f32 := constant S_ .f32 0x00000000#32
  let main_v16 : FVec F S128x1024 .f32 := broadcastInDim S128x1024 ![] bcast_S_S128x1024 main_cst_4
  let main_v17 : IVec S128x1024 1 := cmpf .oeq main_v15 main_v16
  fn_part1 (F := F) main_arg7 main_arg8 main_arg15 main_arg17 main_v2 main_v5 main_v8 main_v11 main_v14 main_v17
-- ==== Kernel.lean ====
abbrev S1x4x4096x1024 : Shape := ⟨4, ![1, 4, 4096, 1024]⟩
abbrev S1024x1024 : Shape := ⟨2, ![1024, 1024]⟩
abbrev S128x1024 : Shape := ⟨2, ![128, 1024]⟩
abbrev S128 : Shape := ⟨1, ![128]⟩
abbrev S1x128 : Shape := ⟨2, ![1, 128]⟩
abbrev S1 : Shape := ⟨1, ![1]⟩
abbrev S4x128 : Shape := ⟨2, ![4, 128]⟩
abbrev S4 : Shape := ⟨1, ![4]⟩
abbrev S4x2x1024 : Shape := ⟨3, ![4, 2, 1024]⟩
abbrev S4x2 : Shape := ⟨2, ![4, 2]⟩
abbrev S2x1024 : Shape := ⟨2, ![2, 1024]⟩
abbrev S2 : Shape := ⟨1, ![2]⟩
abbrev S256 : Shape := ⟨1, ![256]⟩
abbrev S1x256 : Shape := ⟨2, ![1, 256]⟩
abbrev S1x1 : Shape := ⟨2, ![1, 1]⟩
abbrev S4x1x4096 : Shape := ⟨3, ![4, 1, 4096]⟩
abbrev S4x1x1024 : Shape := ⟨3, ![4, 1, 1024]⟩
abbrev S1x1x2048x1024 : Shape := ⟨4, ![1, 1, 2048, 1024]⟩
abbrev S1x1x4096 : Shape := ⟨3, ![1, 1, 4096]⟩
abbrev S1x1x1024 : Shape := ⟨3, ![1, 1, 1024]⟩
abbrev S1x1024 : Shape := ⟨2, ![1, 1024]⟩
abbrev S256x1024 : Shape := ⟨2, ![256, 1024]⟩
abbrev S1x1x512x1024 : Shape := ⟨4, ![1, 1, 512, 1024]⟩
abbrev S512x1024 : Shape := ⟨2, ![512, 1024]⟩
abbrev S512x256 : Shape := ⟨2, ![512, 256]⟩
abbrev S512x128 : Shape := ⟨2, ![512, 128]⟩
abbrev S1x512 : Shape := ⟨2, ![1, 512]⟩
abbrev S1x1x512 : Shape := ⟨3, ![1, 1, 512]⟩
abbrev S4x4096 : Shape := ⟨2, ![4, 4096]⟩
abbrev S4x1024 : Shape := ⟨2, ![4, 1024]⟩
abbrev S4x1 : Shape := ⟨2, ![4, 1]⟩
abbrev S1x2 : Shape := ⟨2, ![1, 2]⟩
abbrev S4x4 : Shape := ⟨2, ![4, 4]⟩
abbrev S4x256 : Shape := ⟨2, ![4, 256]⟩
abbrev S2x4 : Shape := ⟨2, ![2, 4]⟩
abbrev S2x256 : Shape := ⟨2, ![2, 256]⟩
abbrev S2x128 : Shape := ⟨2, ![2, 128]⟩

abbrev nBuf : Space → Nat
  | .hbm => 50
  | .vmem => 47
  | .smem => 0
  | _ => 0

abbrev bufTy : (tb : Table) → Fin (tcTables nBuf tb) → BufTy
  | .hbm, ⟨0, _⟩ => ⟨S1x4x4096x1024, .f32⟩
  | .hbm, ⟨1, _⟩ => ⟨S1024x1024, .f32⟩
  | .hbm, ⟨2, _⟩ => ⟨S1024x1024, .f32⟩
  | .hbm, ⟨3, _⟩ => ⟨S128x1024, .f32⟩
  | .hbm, ⟨4, _⟩ => ⟨S128, .f32⟩
  | .hbm, ⟨5, _⟩ => ⟨S128x1024, .f32⟩
  | .hbm, ⟨6, _⟩ => ⟨S128, .f32⟩
  | .hbm, ⟨7, _⟩ => ⟨S1x128, .f32⟩
  | .hbm, ⟨8, _⟩ => ⟨S1, .f32⟩
  | .hbm, ⟨9, _⟩ => ⟨S128x1024, .f32⟩
  | .hbm, ⟨10, _⟩ => ⟨S128, .f32⟩
  | .hbm, ⟨11, _⟩ => ⟨S128x1024, .f32⟩
  | .hbm, ⟨12, _⟩ => ⟨S128, .f32⟩
  | .hbm, ⟨13, _⟩ => ⟨S4x128, .f32⟩
  | .hbm, ⟨14, _⟩ => ⟨S4, .f32⟩
  | .hbm, ⟨15, _⟩ => ⟨S128x1024, .f32⟩
  | .hbm, ⟨16, _⟩ => ⟨S128, .f32⟩
  | .hbm, ⟨17, _⟩ => ⟨S128x1024, .f32⟩
  | .hbm, ⟨18, _⟩ => ⟨S128, .f32⟩
  | .hbm, ⟨19, _⟩ => ⟨S1x128, .f32⟩
  | .hbm, ⟨20, _⟩ => ⟨S1, .f32⟩
  | .hbm, ⟨21, _⟩ => ⟨S4x2x1024, .f32⟩
  | .hbm, ⟨22, _⟩ => ⟨S4x2, .f32⟩
  | .hbm, ⟨23, _⟩ => ⟨S2x1024, .f32⟩
  | .hbm, ⟨24, _⟩ => ⟨S2, .f32⟩
  | .hbm, ⟨25, _⟩ => ⟨S256, .f32⟩
  | .hbm, ⟨26, _⟩ => ⟨S1x256, .f32⟩
  | .hbm, ⟨27, _⟩ => ⟨S1x1, .f32⟩
  | .hbm, ⟨28, _⟩ => ⟨S4x1x4096, .f32⟩
  | .hbm, ⟨29, _⟩ => ⟨S4x1x1024, .f32⟩
  | .hbm, ⟨30, _⟩ => ⟨S4x4096, .f32⟩
  | .hbm, ⟨31, _⟩ => ⟨S4x1024, .f32⟩
  | .hbm, ⟨32, _⟩ => ⟨S256, .f32⟩
  | .hbm, ⟨33, _⟩ => ⟨S1x256, .f32⟩
  | .hbm, ⟨34, _⟩ => ⟨S256, .f32⟩
  | .hbm, ⟨35, _⟩ => ⟨S1x256, .f32⟩
  | .hbm, ⟨36, _⟩ => ⟨S4x1, .f32⟩
  | .hbm, ⟨37, _⟩ => ⟨S1x1, .f32⟩
  | .hbm, ⟨38, _⟩ => ⟨S4x1x1024, .f32⟩
  | .hbm, ⟨39, _⟩ => ⟨S4x1024, .f32⟩
  | .hbm, ⟨40, _⟩ => ⟨S4x1x1024, .f32⟩
  | .hbm, ⟨41, _⟩ => ⟨S4x1024, .f32⟩
  | .hbm, ⟨42, _⟩ => ⟨S1x2, .f32⟩
  | .hbm, ⟨43, _⟩ => ⟨S4x4096, .f32⟩
  | .hbm, ⟨44, _⟩ => ⟨S4x4, .f32⟩
  | .hbm, ⟨45, _⟩ => ⟨S4x2, .f32⟩
  | .hbm, ⟨46, _⟩ => ⟨S1x2, .f32⟩
  | .hbm, ⟨47, _⟩ => ⟨S4x1x4096, .f32⟩
  | .hbm, ⟨48, _⟩ => ⟨S2x4, .f32⟩
  | .hbm, ⟨49, _⟩ => ⟨S2x4, .f32⟩
  | .local _ .vmem, ⟨0, _⟩ => ⟨S1x1x2048x1024, .f32⟩
  | .local _ .vmem, ⟨1, _⟩ => ⟨S1x1x2048x1024, .f32⟩
  | .local _ .vmem, ⟨2, _⟩ => ⟨S1024x1024, .f32⟩
  | .local _ .vmem, ⟨3, _⟩ => ⟨S128x1024, .f32⟩
  | .local _ .vmem, ⟨4, _⟩ => ⟨S128x1024, .f32⟩
  | .local _ .vmem, ⟨5, _⟩ => ⟨S1x256, .f32⟩
  | .local _ .vmem, ⟨6, _⟩ => ⟨S1x128, .f32⟩
  | .local _ .vmem, ⟨7, _⟩ => ⟨S1x1, .f32⟩
  | .local _ .vmem, ⟨8, _⟩ => ⟨S1x1x4096, .f32⟩
  | .local _ .vmem, ⟨9, _⟩ => ⟨S1x1x4096, .f32⟩
  | .local _ .vmem, ⟨10, _⟩ => ⟨S1x1x1024, .f32⟩
  | .local _ .vmem, ⟨11, _⟩ => ⟨S1x1x1024, .f32⟩
  | .local _ .vmem, ⟨12, _⟩ => ⟨S1x1, .f32⟩
  | .local _ .vmem, ⟨13, _⟩ => ⟨S1x1, .f32⟩
  | .local _ .vmem, ⟨14, _⟩ => ⟨S1x1024, .f32⟩
  | .local _ .vmem, ⟨15, _⟩ => ⟨S1024x1024, .f32⟩
  | .local _ .vmem, ⟨16, _⟩ => ⟨S1024x1024, .bf16⟩
  | .local _ .vmem, ⟨17, _⟩ => ⟨S256x1024, .f32⟩
  | .local _ .vmem, ⟨18, _⟩ => ⟨S256x1024, .bf16⟩
  | .local _ .vmem, ⟨19, _⟩ => ⟨S4x4096, .f32⟩
  | .local _ .vmem, ⟨20, _⟩ => ⟨S4x1024, .f32⟩
  | .local _ .vmem, ⟨21, _⟩ => ⟨S1024x1024, .f32⟩
  | .local _ .vmem, ⟨22, _⟩ => ⟨S128x1024, .f32⟩
  | .local _ .vmem, ⟨23, _⟩ => ⟨S128x1024, .f32⟩
  | .local _ .vmem, ⟨24, _⟩ => ⟨S1x256, .f32⟩
  | .local _ .vmem, ⟨25, _⟩ => ⟨S4x128, .f32⟩
  | .local _ .vmem, ⟨26, _⟩ => ⟨S4x1, .f32⟩
  | .local _ .vmem, ⟨27, _⟩ => ⟨S128x1024, .f32⟩
  | .local _ .vmem, ⟨28, _⟩ => ⟨S128x1024, .f32⟩
  | .local _ .vmem, ⟨29, _⟩ => ⟨S1x256, .f32⟩
  | .local _ .vmem, ⟨30, _⟩ => ⟨S1x128, .f32⟩
  | .local _ .vmem, ⟨31, _⟩ => ⟨S1x1, .f32⟩
  | .local _ .vmem, ⟨32, _⟩ => ⟨S4x1024, .f32⟩
  | .local _ .vmem, ⟨33, _⟩ => ⟨S4x1024, .f32⟩
  | .local _ .vmem, ⟨34, _⟩ => ⟨S4x2, .f32⟩
  | .local _ .vmem, ⟨35, _⟩ => ⟨S2x1024, .f32⟩
  | .local _ .vmem, ⟨36, _⟩ => ⟨S1x2, .f32⟩
  | .local _ .vmem, ⟨37, _⟩ => ⟨S4x4096, .f32⟩
  | .local _ .vmem, ⟨38, _⟩ => ⟨S4x4, .f32⟩
  | .local _ .vmem, ⟨39, _⟩ => ⟨S4x2, .f32⟩
  | .local _ .vmem, ⟨40, _⟩ => ⟨S1x2, .f32⟩
  | .local _ .vmem, ⟨41, _⟩ => ⟨S1024x1024, .f32⟩
  | .local _ .vmem, ⟨42, _⟩ => ⟨S1024x1024, .bf16⟩
  | .local _ .vmem, ⟨43, _⟩ => ⟨S256x1024, .f32⟩
  | .local _ .vmem, ⟨44, _⟩ => ⟨S256x1024, .bf16⟩
  | .local _ .vmem, ⟨45, _⟩ => ⟨S256x1024, .f32⟩
  | .local _ .vmem, ⟨46, _⟩ => ⟨S256x1024, .bf16⟩
  | _, _ => ⟨S1x4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3_0 : Ref sig .tc := ⟨.hbm, 28, rfl⟩
abbrev main_v3_1 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17_0 : Ref sig .tc := ⟨.hbm, 43, rfl⟩
abbrev main_v17_1 : Ref sig .tc := ⟨.hbm, 44, rfl⟩
abbrev main_v17_2 : Ref sig .tc := ⟨.hbm, 45, rfl⟩
abbrev main_v17_3 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc1_stg0_0 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg11_0 : Ref sig .tc := ⟨.vmem, 30, rfl⟩
abbrev cc1_stg12_0 : Ref sig .tc := ⟨.vmem, 31, rfl⟩
abbrev cc1_stg13_0 : Ref sig .tc := ⟨.vmem, 32, rfl⟩
abbrev cc1_stg14_0 : Ref sig .tc := ⟨.vmem, 33, rfl⟩
abbrev cc1_stg15_0 : Ref sig .tc := ⟨.vmem, 34, rfl⟩
abbrev cc1_stg16_0 : Ref sig .tc := ⟨.vmem, 35, rfl⟩
abbrev cc1_stg17_0 : Ref sig .tc := ⟨.vmem, 36, rfl⟩
abbrev cc1_stg18_0 : Ref sig .tc := ⟨.vmem, 37, rfl⟩
abbrev cc1_stg19_0 : Ref sig .tc := ⟨.vmem, 38, rfl⟩
abbrev cc1_stg20_0 : Ref sig .tc := ⟨.vmem, 39, rfl⟩
abbrev cc1_stg21_0 : Ref sig .tc := ⟨.vmem, 40, rfl⟩
abbrev cc1_scratch0 : Ref sig .tc := ⟨.vmem, 41, rfl⟩
abbrev cc1_scratch1 : Ref sig .tc := ⟨.vmem, 42, rfl⟩
abbrev cc1_scratch2 : Ref sig .tc := ⟨.vmem, 43, rfl⟩
abbrev cc1_scratch3 : Ref sig .tc := ⟨.vmem, 44, rfl⟩
abbrev cc1_scratch4 : Ref sig .tc := ⟨.vmem, 45, rfl⟩
abbrev cc1_scratch5 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24
abbrev cc1_sem13_0 : DmaSem sig := 25
abbrev cc1_sem14_0 : DmaSem sig := 26
abbrev cc1_sem15_0 : DmaSem sig := 27
abbrev cc1_sem16_0 : DmaSem sig := 28
abbrev cc1_sem17_0 : DmaSem sig := 29
abbrev cc1_sem18_0 : DmaSem sig := 30
abbrev cc1_sem19_0 : DmaSem sig := 31
abbrev cc1_sem20_0 : DmaSem sig := 32
abbrev cc1_sem21_0 : DmaSem sig := 33

abbrev nD : Nat := 1
abbrev τ : Topo := Topo.v7x

variable {F : FTy → Type} [FloatOps F]

abbrev grid0 : Pipeline.Grid := ⟨2, ![4, 2], ![false, false]⟩

def k0_off1 (i : grid0.Coords) (c0_i32_26 : BitVec 32) : Fin 3 → Nat :=
  let c0_27 : Index := 0#32
  let c0_28 : Index := 0#32
  let arg1 : BitVec 32 := BitVec.ofNat 32 (i 1).val
  let c2048_i32 : BitVec 32 := 2048#32
  let v39 : BitVec 32 := Scalar.muli arg1 c2048_i32
  let v40 : BitVec 32 := Scalar.addi v39 c0_i32_26
  let v41 : Index := Scalar.indexCast v40
  ![0, 0, v41.toNat]
def k0_cond3 (i : grid0.Coords) : BitVec 1 :=
  let arg1 : BitVec 32 := BitVec.ofNat 32 (i 1).val
  let c1_i32 : BitVec 32 := 1#32
  let v268 : BitVec 1 := Scalar.cmpi .eq arg1 c1_i32
  let v269 : BitVec 32 := Scalar.extui v268
  let c0_i32_167 : BitVec 32 := 0#32
  let v270 : BitVec 1 := Scalar.cmpi .ne v269 c0_i32_167
  v270

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := .none

abbrev stage1_0 : Fin 1 → Memref sig .tc .vmem S4x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1024x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S128x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S128x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S4x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S4x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S128x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S128x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S1x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev stage1_13 : Fin 1 → Memref sig .tc .vmem S4x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))

abbrev stage1_14 : Fin 1 → Memref sig .tc .vmem S4x1024 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))

abbrev stage1_15 : Fin 1 → Memref sig .tc .vmem S4x2 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))

abbrev stage1_16 : Fin 1 → Memref sig .tc .vmem S2x1024 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))

abbrev stage1_17 : Fin 1 → Memref sig .tc .vmem S1x2 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))

abbrev stage1_18 : Fin 1 → Memref sig .tc .vmem S4x4096 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))

abbrev stage1_19 : Fin 1 → Memref sig .tc .vmem S4x4 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))

abbrev stage1_20 : Fin 1 → Memref sig .tc .vmem S4x2 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))

abbrev stage1_21 : Fin 1 → Memref sig .tc .vmem S1x2 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
-- ==== ReferenceIdeal.lean ====
abbrev S1x4x4096x1024 : Shape := ⟨4, ![1, 4, 4096, 1024]⟩
abbrev S1024x1024 : Shape := ⟨2, ![1024, 1024]⟩
abbrev S128x1024 : Shape := ⟨2, ![128, 1024]⟩
abbrev S128 : Shape := ⟨1, ![128]⟩
abbrev S1x128 : Shape := ⟨2, ![1, 128]⟩
abbrev S1 : Shape := ⟨1, ![1]⟩
abbrev S4x128 : Shape := ⟨2, ![4, 128]⟩
abbrev S4 : Shape := ⟨1, ![4]⟩
abbrev S4x2x1024 : Shape := ⟨3, ![4, 2, 1024]⟩
abbrev S4x2 : Shape := ⟨2, ![4, 2]⟩
abbrev S2x1024 : Shape := ⟨2, ![2, 1024]⟩
abbrev S2 : Shape := ⟨1, ![2]⟩
abbrev S4x4096x1024 : Shape := ⟨3, ![4, 4096, 1024]⟩
abbrev S_ : Shape := ⟨0, ![]⟩
abbrev S1024x128 : Shape := ⟨2, ![1024, 128]⟩
abbrev S4x4096x128 : Shape := ⟨3, ![4, 4096, 128]⟩
abbrev S1x1x128 : Shape := ⟨3, ![1, 1, 128]⟩
abbrev S128x1 : Shape := ⟨2, ![128, 1]⟩
abbrev S4x4096x1 : Shape := ⟨3, ![4, 4096, 1]⟩
abbrev S1x1x1 : Shape := ⟨3, ![1, 1, 1]⟩
abbrev S4096x4x1 : Shape := ⟨3, ![4096, 4, 1]⟩
abbrev S1x4x4096 : Shape := ⟨3, ![1, 4, 4096]⟩
abbrev S4x1x4096 : Shape := ⟨3, ![4, 1, 4096]⟩
abbrev S4x1 : Shape := ⟨2, ![4, 1]⟩
abbrev S4x1x1 : Shape := ⟨3, ![4, 1, 1]⟩
abbrev S4x4096 : Shape := ⟨2, ![4, 4096]⟩
abbrev S4x1x1024 : Shape := ⟨3, ![4, 1, 1024]⟩
abbrev S4x1024 : Shape := ⟨2, ![4, 1024]⟩
abbrev S128x4 : Shape := ⟨2, ![128, 4]⟩
abbrev S4x4 : Shape := ⟨2, ![4, 4]⟩
abbrev S1x4 : Shape := ⟨2, ![1, 4]⟩
abbrev S2x4 : Shape := ⟨2, ![2, 4]⟩
abbrev S1x1024 : Shape := ⟨2, ![1, 1024]⟩
abbrev S2x128 : Shape := ⟨2, ![2, 128]⟩
abbrev S2x1 : Shape := ⟨2, ![2, 1]⟩
abbrev S1x1 : Shape := ⟨2, ![1, 1]⟩
abbrev S1x2 : Shape := ⟨2, ![1, 2]⟩
abbrev S1024x2 : Shape := ⟨2, ![1024, 2]⟩

abbrev nBuf : Space → Nat
  | .hbm => 193
  | .vmem => 0
  | .smem => 0
  | _ => 0

abbrev hbmTy0_0 (i : Nat) : BufTy := match i % 128 with
  | 0 => ⟨S1x4x4096x1024, .f32⟩
  | 1 => ⟨S1024x1024, .f32⟩
  | 2 => ⟨S1024x1024, .f32⟩
  | 3 => ⟨S128x1024, .f32⟩
  | 4 => ⟨S128, .f32⟩
  | 5 => ⟨S128x1024, .f32⟩
  | 6 => ⟨S128, .f32⟩
  | 7 => ⟨S1x128, .f32⟩
  | 8 => ⟨S1, .f32⟩
  | 9 => ⟨S128x1024, .f32⟩
  | 10 => ⟨S128, .f32⟩
  | 11 => ⟨S128x1024, .f32⟩
  | 12 => ⟨S128, .f32⟩
  | 13 => ⟨S4x128, .f32⟩
  | 14 => ⟨S4, .f32⟩
  | 15 => ⟨S128x1024, .f32⟩
  | 16 => ⟨S128, .f32⟩
  | 17 => ⟨S128x1024, .f32⟩
  | 18 => ⟨S128, .f32⟩
  | 19 => ⟨S1x128, .f32⟩
  | 20 => ⟨S1, .f32⟩
  | 21 => ⟨S4x2x1024, .f32⟩
  | 22 => ⟨S4x2, .f32⟩
  | 23 => ⟨S2x1024, .f32⟩
  | 24 => ⟨S2, .f32⟩
  | 25 => ⟨S4x4096x1024, .f32⟩
  | 26 => ⟨S1024x1024, .f32⟩
  | 27 => ⟨S4x4096x1024, .f32⟩
  | 28 => ⟨S_, .f32⟩
  | 29 => ⟨S4x4096x1024, .f32⟩
  | 30 => ⟨S4x4096x1024, .f32⟩
  | 31 => ⟨S1024x128, .f32⟩
  | 32 => ⟨S4x4096x128, .f32⟩
  | 33 => ⟨S1x1x128, .f32⟩
  | 34 => ⟨S4x4096x128, .f32⟩
  | 35 => ⟨S4x4096x128, .f32⟩
  | 36 => ⟨S4x4096x128, .f32⟩
  | 37 => ⟨S1024x128, .f32⟩
  | 38 => ⟨S4x4096x128, .f32⟩
  | 39 => ⟨S1x1x128, .f32⟩
  | 40 => ⟨S4x4096x128, .f32⟩
  | 41 => ⟨S4x4096x128, .f32⟩
  | 42 => ⟨S4x4096x128, .f32⟩
  | 43 => ⟨S4x4096x128, .f32⟩
  | 44 => ⟨S_, .f32⟩
  | 45 => ⟨S4x4096x128, .f32⟩
  | 46 => ⟨S4x4096x128, .f32⟩
  | 47 => ⟨S_, .f32⟩
  | 48 => ⟨S4x4096x128, .f32⟩
  | 49 => ⟨S4x4096x128, .f32⟩
  | 50 => ⟨S4x4096x128, .f32⟩
  | 51 => ⟨S128x1, .f32⟩
  | 52 => ⟨S4x4096x1, .f32⟩
  | 53 => ⟨S1x1x1, .f32⟩
  | 54 => ⟨S4x4096x1, .f32⟩
  | 55 => ⟨S4x4096x1, .f32⟩
  | 56 => ⟨S4096x4x1, .f32⟩
  | 57 => ⟨S1x4x4096, .f32⟩
  | 58 => ⟨S4x1x4096, .f32⟩
  | 59 => ⟨S_, .f32⟩
  | 60 => ⟨S4x1, .f32⟩
  | 61 => ⟨S_, .f32⟩
  | 62 => ⟨S4x1, .f32⟩
  | 63 => ⟨S4x1, .f32⟩
  | 64 => ⟨S4x1x1, .f32⟩
  | 65 => ⟨S4x1x4096, .f32⟩
  | 66 => ⟨S4x1x4096, .f32⟩
  | 67 => ⟨S4x1x4096, .f32⟩
  | 68 => ⟨S_, .f32⟩
  | 69 => ⟨S4x1, .f32⟩
  | 70 => ⟨S4x1x1, .f32⟩
  | 71 => ⟨S4x1x4096, .f32⟩
  | 72 => ⟨S4x1x4096, .f32⟩
  | 73 => ⟨S_, .f32⟩
  | 74 => ⟨S4x4096, .f32⟩
  | 75 => ⟨S4x1x4096, .f32⟩
  | 76 => ⟨S_, .f32⟩
  | 77 => ⟨S4x1x4096, .f32⟩
  | 78 => ⟨S4x1x4096, .f32⟩
  | 79 => ⟨S4x1x1024, .f32⟩
  | 80 => ⟨S4x1024, .f32⟩
  | 81 => ⟨S1024x1024, .f32⟩
  | 82 => ⟨S4x1024, .f32⟩
  | 83 => ⟨S_, .f32⟩
  | 84 => ⟨S4x1024, .f32⟩
  | 85 => ⟨S4x1024, .f32⟩
  | 86 => ⟨S1024x128, .f32⟩
  | 87 => ⟨S4x128, .f32⟩
  | 88 => ⟨S1x128, .f32⟩
  | 89 => ⟨S4x128, .f32⟩
  | 90 => ⟨S4x128, .f32⟩
  | 91 => ⟨S4x128, .f32⟩
  | 92 => ⟨S1024x128, .f32⟩
  | 93 => ⟨S4x128, .f32⟩
  | 94 => ⟨S1x128, .f32⟩
  | 95 => ⟨S4x128, .f32⟩
  | 96 => ⟨S4x128, .f32⟩
  | 97 => ⟨S4x128, .f32⟩
  | 98 => ⟨S4x128, .f32⟩
  | 99 => ⟨S_, .f32⟩
  | 100 => ⟨S4x128, .f32⟩
  | 101 => ⟨S4x128, .f32⟩
  | 102 => ⟨S_, .f32⟩
  | 103 => ⟨S4x128, .f32⟩
  | 104 => ⟨S4x128, .f32⟩
  | 105 => ⟨S4x128, .f32⟩
  | 106 => ⟨S128x4, .f32⟩
  | 107 => ⟨S4x4, .f32⟩
  | 108 => ⟨S1x4, .f32⟩
  | 109 => ⟨S4x4, .f32⟩
  | 110 => ⟨S4x4, .f32⟩
  | 111 => ⟨S4x4, .f32⟩
  | 112 => ⟨S_, .f32⟩
  | 113 => ⟨S4, .f32⟩
  | 114 => ⟨S_, .f32⟩
  | 115 => ⟨S4, .f32⟩
  | 116 => ⟨S4, .f32⟩
  | 117 => ⟨S4x1, .f32⟩
  | 118 => ⟨S4x4, .f32⟩
  | 119 => ⟨S4x4, .f32⟩
  | 120 => ⟨S4x4, .f32⟩
  | 121 => ⟨S_, .f32⟩
  | 122 => ⟨S4, .f32⟩
  | 123 => ⟨S4x1, .f32⟩
  | 124 => ⟨S4x4, .f32⟩
  | 125 => ⟨S4x4, .f32⟩
  | 126 => ⟨S4x1024, .f32⟩
  | 127 => ⟨S4x2, .f32⟩
  | _ => ⟨S1x4x4096x1024, .f32⟩

abbrev hbmTy0_1 (i : Nat) : BufTy := match i % 128 with
  | 0 => ⟨S4x2, .f32⟩
  | 1 => ⟨S2x4, .f32⟩
  | 2 => ⟨S_, .f32⟩
  | 3 => ⟨S4, .f32⟩
  | 4 => ⟨S1x4, .f32⟩
  | 5 => ⟨S_, .f32⟩
  | 6 => ⟨S1x4, .f32⟩
  | 7 => ⟨S1x4, .f32⟩
  | 8 => ⟨S2x4, .f32⟩
  | 9 => ⟨S_, .f32⟩
  | 10 => ⟨S4, .f32⟩
  | 11 => ⟨S1x4, .f32⟩
  | 12 => ⟨S_, .f32⟩
  | 13 => ⟨S1x4, .f32⟩
  | 14 => ⟨S1x4, .f32⟩
  | 15 => ⟨S1x1024, .f32⟩
  | 16 => ⟨S1x1024, .f32⟩
  | 17 => ⟨S2x1024, .f32⟩
  | 18 => ⟨S1024x128, .f32⟩
  | 19 => ⟨S2x128, .f32⟩
  | 20 => ⟨S1x128, .f32⟩
  | 21 => ⟨S2x128, .f32⟩
  | 22 => ⟨S2x128, .f32⟩
  | 23 => ⟨S2x128, .f32⟩
  | 24 => ⟨S1024x128, .f32⟩
  | 25 => ⟨S2x128, .f32⟩
  | 26 => ⟨S1x128, .f32⟩
  | 27 => ⟨S2x128, .f32⟩
  | 28 => ⟨S2x128, .f32⟩
  | 29 => ⟨S2x128, .f32⟩
  | 30 => ⟨S2x128, .f32⟩
  | 31 => ⟨S_, .f32⟩
  | 32 => ⟨S2x128, .f32⟩
  | 33 => ⟨S2x128, .f32⟩
  | 34 => ⟨S_, .f32⟩
  | 35 => ⟨S2x128, .f32⟩
  | 36 => ⟨S2x128, .f32⟩
  | 37 => ⟨S2x128, .f32⟩
  | 38 => ⟨S128x1, .f32⟩
  | 39 => ⟨S2x1, .f32⟩
  | 40 => ⟨S1x1, .f32⟩
  | 41 => ⟨S2x1, .f32⟩
  | 42 => ⟨S2x1, .f32⟩
  | 43 => ⟨S1x2, .f32⟩
  | 44 => ⟨S_, .f32⟩
  | 45 => ⟨S1, .f32⟩
  | 46 => ⟨S_, .f32⟩
  | 47 => ⟨S1, .f32⟩
  | 48 => ⟨S1, .f32⟩
  | 49 => ⟨S1x1, .f32⟩
  | 50 => ⟨S1x2, .f32⟩
  | 51 => ⟨S1x2, .f32⟩
  | 52 => ⟨S1x2, .f32⟩
  | 53 => ⟨S_, .f32⟩
  | 54 => ⟨S1, .f32⟩
  | 55 => ⟨S1x1, .f32⟩
  | 56 => ⟨S1x2, .f32⟩
  | 57 => ⟨S1x2, .f32⟩
  | 58 => ⟨S1x1024, .f32⟩
  | 59 => ⟨S1024x2, .f32⟩
  | 60 => ⟨S1x2, .f32⟩
  | 61 => ⟨S1x2, .f32⟩
  | 62 => ⟨S1x2, .f32⟩
  | 63 => ⟨S2x4, .f32⟩
  | 64 => ⟨S2x4, .f32⟩
  | _ => ⟨S1x4x4096x1024, .f32⟩

abbrev hbmTy (i : Nat) : BufTy := match i / 128 with
  | 0 => hbmTy0_0 i
  | 1 => hbmTy0_1 i
  | _ => ⟨S1x4x4096x1024, .f32⟩

abbrev bufTy : (tb : Table) → Fin (tcTables nBuf tb) → BufTy
  | .hbm, ⟨i, _⟩ => hbmTy i
  | _, _ => ⟨S1x4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_call0_cst : Ref sig .tc := ⟨.hbm, 28, rfl⟩
abbrev main_call0_v0 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst : Ref sig .tc := ⟨.hbm, 44, rfl⟩
abbrev main_v17 : Ref sig .tc := ⟨.hbm, 45, rfl⟩
abbrev main_v18 : Ref sig .tc := ⟨.hbm, 46, rfl⟩
abbrev main_cst_0 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_1 : Ref sig .tc := ⟨.hbm, 59, rfl⟩
abbrev main_v30 : Ref sig .tc := ⟨.hbm, 60, rfl⟩
abbrev main_cst_2 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_3 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_4 : Ref sig .tc := ⟨.hbm, 73, rfl⟩
abbrev main_v41 : Ref sig .tc := ⟨.hbm, 74, rfl⟩
abbrev main_v42 : Ref sig .tc := ⟨.hbm, 75, rfl⟩
abbrev main_cst_5 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_call1_cst : Ref sig .tc := ⟨.hbm, 83, rfl⟩
abbrev main_call1_v0 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_6 : Ref sig .tc := ⟨.hbm, 99, rfl⟩
abbrev main_v63 : Ref sig .tc := ⟨.hbm, 100, rfl⟩
abbrev main_v64 : Ref sig .tc := ⟨.hbm, 101, rfl⟩
abbrev main_cst_7 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_8 : Ref sig .tc := ⟨.hbm, 112, rfl⟩
abbrev main_v74 : Ref sig .tc := ⟨.hbm, 113, rfl⟩
abbrev main_cst_9 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_10 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_11 : Ref sig .tc := ⟨.hbm, 130, rfl⟩
abbrev main_v89 : Ref sig .tc := ⟨.hbm, 131, rfl⟩
abbrev main_v90 : Ref sig .tc := ⟨.hbm, 132, rfl⟩
abbrev main_cst_12 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_13 : Ref sig .tc := ⟨.hbm, 137, rfl⟩
abbrev main_v94 : Ref sig .tc := ⟨.hbm, 138, rfl⟩
abbrev main_v95 : Ref sig .tc := ⟨.hbm, 139, rfl⟩
abbrev main_cst_14 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_15 : Ref sig .tc := ⟨.hbm, 159, rfl⟩
abbrev main_v114 : Ref sig .tc := ⟨.hbm, 160, rfl⟩
abbrev main_v115 : Ref sig .tc := ⟨.hbm, 161, rfl⟩
abbrev main_cst_16 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_cst_17 : Ref sig .tc := ⟨.hbm, 172, rfl⟩
abbrev main_v125 : Ref sig .tc := ⟨.hbm, 173, rfl⟩
abbrev main_cst_18 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_cst_19 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩

abbrev nD : Nat := 1
abbrev τ : Topo := Topo.v7x

variable {F : FTy → Type} [FloatOps F]
-- ==== Proof.Region.lean ====
module

public import proofs.«01_k».proof.Proof.Gen.KernelIdeal.Regions
public import Idealize.ShloMosaic.Lib.Pipeline.RegionArrays

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR sig nD τ) ℕ

/-- Every TensorCore cell is at level 0. -/
def lvls : GSem nD τ sig → Finset Unit := fun g => if g.1.2 = .tc then Finset.univ else ∅
/-- Between two items a core owes nothing. -/
abbrev idle (c : Dev nD) : sProp 𝕄 := iprop(∃ W, owes (c : Thread nD τ) (0 : CellTallies nD τ sig Unit) W)
/-- A core's unscoped buffers whole at `W`. -/
abbrev heldAll (c : Dev nD) (W : Valuation τ sig (Elt F)) : sProp 𝕄 := StableHlo.held (c : Thread nD τ) (Pipeline.ucRefs τ sig) W

variable (rdats : (p : Fin 2) → (c : Dev nD) → RDat τ (Elt F) Unit ℕ (UR sig nD τ) ℕ (cfgs p) c)

/-- The arrays of a region at contents `G` are the buffers they lie in, held at any valuation that agrees. -/
theorem arrays_heldR (p : Fin 2) (kit : Pipeline.LaunchFacts (nD := nD) (τ := τ) cfgs p) (c : Dev nD)
    (hq : ∀ w, (rdats p c).q w = fullShare)
    (G : (w : Fin (cfgs p).W) → Buf (Elt F) (((cfgs p).win w).arr.view.loc (c.tc : Thread nD τ))) (Wc : Valuation τ sig (Elt F))
    (hG : ∀ w, G w = Wc (Proc.devRef .tc (Pipeline.arrRef (cfgs p).spec w))) :
    ((rdats p c).arrays G : sProp 𝕄) = StableHlo.held (c.tc : Thread nD τ) (Pipeline.arrRefs (cfgs p).spec) Wc := by
  rw [Pipeline.RDat.arrays_eq (pcfgs (F := F)) adm rdats p c (kit.toP (Val := Elt F)).arr_whole (RDat.share_full _ hq) G]
  unfold StableHlo.held Pipeline.arrRefs
  have himg : Finset.univ.image (Pipeline.arrRef (cfgs p).spec)
      = Finset.univ.map ⟨Pipeline.arrRef (cfgs p).spec, (kit.toP (Val := Elt F)).win.arr_inj⟩ := (Finset.map_eq_image ⟨_, _⟩ _).symm
  rw [himg, bigSep_map, bigSep_map]
  refine bigSep_congr fun w _ => ?_
  rw [hG]
  rfl

/-- A region over all the unscoped buffers: entered at `W`, left at `W'`, which agrees with `W` off the region's arrays and
    at them is what the region's proof data end with. -/
def region (p : Fin 2) (kit : Pipeline.LaunchFacts (nD := nD) (τ := τ) cfgs p)
    (hw : ∀ w, (Pipeline.arrRef (cfgs p).spec w).isScoped = false)
    (hbody : ∀ c, (rdats p c).BodyObligation defs₀ Variants.none () Set.univ)
    (howed : ∀ c t, (rdats p c).owed t = 0) (hrec : ∀ c, (rdats p c).recorded 0 = Set.univ)
    (hq : ∀ c w, (rdats p c).q w = fullShare)
    (hin : ∀ c, Pipeline.scopedRest (Ix := Unit) (Name := ℕ) (U := UR sig nD τ) (Lvl := ℕ) (Val := Elt F) (cfgs p).spec c ⊢ (rdats p c).Φ 0)
    (hout : ∀ c, (rdats p c).Φ (Fin.last (cfgs p).N) ⊢ Pipeline.scopedRest (Ix := Unit) (Name := ℕ) (U := UR sig nD τ) (Lvl := ℕ) (Val := Elt F) (cfgs p).spec c)
    (W W' : Dev nD → Valuation τ sig (Elt F))
    (hA : ∀ c w, (rdats p c).A w = W c (Proc.devRef .tc (Pipeline.arrRef (cfgs p).spec w)))
    (hA' : ∀ c w G, (rdats p c).ArrAt w (cfgs p).N G → G = W' c (Proc.devRef .tc (Pipeline.arrRef (cfgs p).spec w)))
    (hoff : ∀ c, ∀ b ∈ Pipeline.ucRefs τ sig, b ∉ Pipeline.arrRefs (τ := τ) (cfgs p).spec → W c b = W' c b) :
    Pipeline.RDat.RegionSeg (pcfgs (F := F)) adm rdats () defs₀ Variants.none lvls (fun _ _ => (0 : ℕ)) p where
  win := (kit.toP (Val := Elt F)).to₀.win
  block_pos := (kit.toP (Val := Elt F)).to₀.block_pos
  stage_whole := (kit.toP (Val := Elt F)).to₀.stage_whole
  K := PEmpty
  osem k := k.elim
  ho := Pipeline.OwnSemFacts.none _
  hbody := hbody
  hwaits c := Pipeline.RDat.cellsWaits_of_cut (Pipeline.pin (pcfgs (F := F)) adm) rdats () p c 0 0 (howed c) (fun _ _ => by simp [lvls]) (fun _ _ => le_refl _)
    (fun g i h => absurd h (lt_irrefl _))
  pre c := iprop(heldAll c (W c) ∗ idle c)
  post c := iprop(heldAll c (W' c) ∗ idle c)
  X c := BI.emp
  Y c := BI.emp
  Z c := StableHlo.held (c : Thread nD τ) (Pipeline.ucRefs τ sig \ Pipeline.arrRefs (τ := τ) (cfgs p).spec) (W c)
  hentry c := by
    have e : ((rdats p c).arrays (rdats p c).A : sProp 𝕄) = StableHlo.held (c.tc : Thread nD τ) (Pipeline.arrRefs (cfgs p).spec) (W c) :=
      arrays_heldR rdats p kit c (hq c) _ _ (hA c)
    rw [Pipeline.ownSems0_none, Pipeline.prefHeld_of_none _ rfl]
    iintro ⟨⟨Ha, HO⟩, -, -⟩
    ihave Ha' := (Entails.of_eq (StableHlo.held_sub_split (Ix := Unit) (Name := ℕ) (U := UR sig nD τ) (Lvl := ℕ) (c.tc : Thread nD τ) (Pipeline.arrRefs_sub_ucRefs (τ := τ) (cfgs p).spec hw) (W c))) $$ Ha
    icases Ha' with ⟨Ha, Hz⟩
    imodintro
    isplitl [Ha]
    · iapply (Entails.of_eq e.symm); iexact Ha
    isplitr; · iempintro
    isplitl [HO]
    · unfold RDat.owesAt Pipeline.owesWithin RDat.bound
      rw [howed c 0, hrec c]
      icases HO with ⟨%W, HO⟩; iexists W; isplitr; · ipureintro; exact fun _ _ => Or.inl trivial
      iexact HO
    isplitr; · iempintro
    iexact Hz
  hin c := (show _ ⊢ Pipeline.scopedRest (Ix := Unit) (Name := ℕ) (U := UR sig nD τ) (Lvl := ℕ) (Val := Elt F) (cfgs p).spec c from by
    iintro ⟨-, -, Hr⟩
    iexact Hr).trans (hin c)
  hout c := (hout c).trans (by
    rw [Pipeline.ownSems0_none]
    iintro Hr
    isplitr; · iempintro
    isplitr; · iempintro
    iexact Hr)
  hexit c := by
    iintro ⟨Ha, HO, -, Hz⟩
    ihave H1 := (show ((rdats p c).arraysAt (cfgs p).N : sProp 𝕄) ⊢ iprop(∃ A, (⌜∀ w, (rdats p c).ArrAt w (cfgs p).N (A w)⌝ ∗ (rdats p c).arrays A)) from by
      unfold RDat.arraysAt RDat.arrays
      refine (BI.bigSep_exists_pi Finset.univ _).trans ?_
      iintro ⟨%A, H⟩
      ihave H' := (BI.bigSep_pure_sep Finset.univ (fun w => (rdats p c).ArrAt w (cfgs p).N (A w)) _) $$ H
      icases H' with ⟨%hA, H⟩
      iexists A
      isplitr
      · ipureintro; exact fun w => hA w (Finset.mem_univ w)
      · iexact H) $$ Ha
    icases H1 with ⟨%A, %h, Ha⟩
    ihave H2 := (Entails.of_eq (arrays_heldR rdats p kit c (hq c) A (W' c) fun w => hA' c w _ (h w))) $$ Ha
    ihave Hz2 := (Entails.of_eq (StableHlo.held_congr (Ix := Unit) (Name := ℕ) (U := UR sig nD τ) (Lvl := ℕ) (c := (c.tc : Thread nD τ)) (S := Pipeline.ucRefs τ sig \ Pipeline.arrRefs (τ := τ) (cfgs p).spec)
      (V := W c) (V' := W' c) fun b hb => hoff c b (Finset.mem_sdiff.mp hb).1 (Finset.mem_sdiff.mp hb).2)) $$ Hz
    imodintro
    isplitl [H2 Hz2]
    · iapply (Entails.of_eq (StableHlo.held_sub_split (Ix := Unit) (Name := ℕ) (U := UR sig nD τ) (Lvl := ℕ) (c.tc : Thread nD τ) (Pipeline.arrRefs_sub_ucRefs (τ := τ) (cfgs p).spec hw) (W' c)).symm)
      isplitl [H2]; · iexact H2
      iexact Hz2
    unfold RDat.owesAt Pipeline.owesWithin
    rw [howed c (Fin.last _)]
    icases HO with ⟨%W, -, HO⟩; iexists W; iexact HO
end Cert.KernelIdeal.Hand
-- ==== Proof.Stage1Step.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.VecWindow
public import Idealize.ShloMosaic.Lib.WholeRead
public import Idealize.ShloMosaic.Lib.Tactic
public import Idealize.ShloMosaic.Lib.WordCmp
public import Idealize.ShloMosaic.Lib.Pipeline.FrameValue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

/-- The condition of the weight split: the first point of the grid. -/
abbrev first (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The condition of the reset: the first tile of a batch. -/
abbrev reset (i : grid0.Coords) : Prop := (Scalar.cmpi .ne (Scalar.extui (Scalar.cmpi .eq (BitVec.ofNat 32 (i 1).val) 0#32)) 0#32) = 1#1
/-- The condition of the final store: the last tile of a batch. -/
abbrev final (i : grid0.Coords) : Prop := k0_cond3 i = 1#1

/-! ### One subtile of 512 rows, as functions of what it loads -/

/-- The attention logits of a subtile, before they are stored. -/
def sc (x : Vec F S1x1x512x1024 .f32) (w1h : Vec F S1024x1024 .f32) (w1l : Vec F S1024x1024 .bf16) (vuh : Vec F S256x1024 .f32)
    (vul : Vec F S256x1024 .bf16) (vub : Vec F S1x256 .f32) (aw : Vec F S1x128 .f32) (ab : Vec F S1x1 .f32) : FVec F S1x512 .f32 :=
  k0_pay44 x w1h w1l vuh vul vub aw ab
/-- The running maximum after a subtile with logits `l`. -/
def mN (l : FVec F S1x512 .f32) (m : Vec F S1x1 .f32) : Vec F S1x1 .f32 := k0_pay51 l m
/-- The running sum of exponentials after a subtile. -/
def sN (l : FVec F S1x512 .f32) (m s : Vec F S1x1 .f32) : Vec F S1x1 .f32 := k0_pay49 l m s
/-- The running weighted sum of rows after a subtile. -/
def aN (x : Vec F S1x1x512x1024 .f32) (l : FVec F S1x512 .f32) (m : Vec F S1x1 .f32) (a : Vec F S1x1024 .f32) : Vec F S1x1024 .f32 :=
  k0_pay50 (k0_pay43 x) l m a
/-- What a subtile stores of its logits. -/
def lg (l : FVec F S1x512 .f32) : Vec F S1x1x512 .f32 := k0_pay45 l
/-- Rows `o` to `o + 512` of a tile of 2048 rows. -/
def rows (x0 : Vec F S1x1x2048x1024 .f32) (o : ℕ) (ho : o + 512 ≤ 2048) : Vec F S1x1x512x1024 .f32 :=
  VecWindow.window x0 ![0, 0, o, 0] ![1, 1, 512, 1024] (fun a => by fin_cases a <;> simp [S1x1x2048x1024] <;> omega)

/-- The inputs of one tile that its subtiles share: the split weights, the biases and the attention vector. -/
structure Wts (F : FTy → Type) where
  (w1h : Vec F S1024x1024 .f32) (w1l : Vec F S1024x1024 .bf16) (vuh : Vec F S256x1024 .f32) (vul : Vec F S256x1024 .bf16)
  (vub : Vec F S1x256 .f32) (aw : Vec F S1x128 .f32) (ab : Vec F S1x1 .f32)

/-- The running state of the online softmax. -/
structure St (F : FTy → Type) where
  (m : Vec F S1x1 .f32) (s : Vec F S1x1 .f32) (a : Vec F S1x1024 .f32)

/-- The logits of a subtile from the shared inputs. -/
def scW (W : Wts F) (x : Vec F S1x1x512x1024 .f32) : FVec F S1x512 .f32 := sc x W.w1h W.w1l W.vuh W.vul W.vub W.aw W.ab
/-- The state after one subtile. -/
def sub (W : Wts F) (x : Vec F S1x1x512x1024 .f32) (σ : St F) : St F :=
  ⟨mN (scW W x) σ.m, sN (scW W x) σ.m σ.s, aN x (scW W x) σ.m σ.a⟩
/-- The state after the four subtiles of one tile. -/
def tile (W : Wts F) (x0 : Vec F S1x1x2048x1024 .f32) (σ : St F) : St F :=
  sub W (rows x0 1536 (by omega)) (sub W (rows x0 1024 (by omega)) (sub W (rows x0 512 (by omega)) (sub W (rows x0 0 (by omega)) σ)))
/-- The four stores of logits of one tile, over what the block held. -/
def tileL (W : Wts F) (i : grid0.Coords) (x0 : Vec F S1x1x2048x1024 .f32) (y : Vec F S1x1x4096 .f32) : Vec F S1x1x4096 .f32 :=
  VecWindow.put (VecWindow.put (VecWindow.put (VecWindow.put y
    (k0_off1 i 0#32) S1x1x512.size (lg (scW W (rows x0 0 (by omega)))))
    (k0_off1 i 512#32) S1x1x512.size (lg (scW W (rows x0 512 (by omega)))))
    (k0_off1 i 1024#32) S1x1x512.size (lg (scW W (rows x0 1024 (by omega)))))
    (k0_off1 i 1536#32) S1x1x512.size (lg (scW W (rows x0 1536 (by omega))))

/-! ### Whole loads -/

theorem ld_1x1 (v : View sig .tc .vmem S1x1 .f32) (f : v.ty.Contents (Elt F)) (inb : ∀ a : Fin 2, (![0, 0] : Fin 2 → ℕ) a + (![1, 1] : Fin 2 → ℕ) a ≤ S1x1.size a) :
    v.readAt (Elt F) (Rect.unit (s := S1x1) ![0, 0] ![1, 1] inb).toLoadRect f = v.read (Elt F) f := View.readAt_full v f inb
theorem ld_1xH (v : View sig .tc .vmem S1x1024 .f32) (f : v.ty.Contents (Elt F)) (inb : ∀ a : Fin 2, (![0, 0] : Fin 2 → ℕ) a + (![1, 1024] : Fin 2 → ℕ) a ≤ S1x1024.size a) :
    v.readAt (Elt F) (Rect.unit (s := S1x1024) ![0, 0] ![1, 1024] inb).toLoadRect f = v.read (Elt F) f := View.readAt_full v f inb
theorem ld_HxH (v : View sig .tc .vmem S1024x1024 .f32) (f : v.ty.Contents (Elt F)) (inb : ∀ a : Fin 2, (![0, 0] : Fin 2 → ℕ) a + (![1024, 1024] : Fin 2 → ℕ) a ≤ S1024x1024.size a) :
    v.readAt (Elt F) (Rect.unit (s := S1024x1024) ![0, 0] ![1024, 1024] inb).toLoadRect f = v.read (Elt F) f := View.readAt_full v f inb
theorem ld_HxHl (v : View sig .tc .vmem S1024x1024 .bf16) (f : v.ty.Contents (Elt F)) (inb : ∀ a : Fin 2, (![0, 0] : Fin 2 → ℕ) a + (![1024, 1024] : Fin 2 → ℕ) a ≤ S1024x1024.size a) :
    v.readAt (Elt F) (Rect.unit (s := S1024x1024) ![0, 0] ![1024, 1024] inb).toLoadRect f = v.read (Elt F) f := View.readAt_full v f inb
theorem ld_256xH (v : View sig .tc .vmem S256x1024 .f32) (f : v.ty.Contents (Elt F)) (inb : ∀ a : Fin 2, (![0, 0] : Fin 2 → ℕ) a + (![256, 1024] : Fin 2 → ℕ) a ≤ S256x1024.size a) :
    v.readAt (Elt F) (Rect.unit (s := S256x1024) ![0, 0] ![256, 1024] inb).toLoadRect f = v.read (Elt F) f := View.readAt_full v f inb
theorem ld_256xHl (v : View sig .tc .vmem S256x1024 .bf16) (f : v.ty.Contents (Elt F)) (inb : ∀ a : Fin 2, (![0, 0] : Fin 2 → ℕ) a + (![256, 1024] : Fin 2 → ℕ) a ≤ S256x1024.size a) :
    v.readAt (Elt F) (Rect.unit (s := S256x1024) ![0, 0] ![256, 1024] inb).toLoadRect f = v.read (Elt F) f := View.readAt_full v f inb
theorem ld_1x256 (v : View sig .tc .vmem S1x256 .f32) (f : v.ty.Contents (Elt F)) (inb : ∀ a : Fin 2, (![0, 0] : Fin 2 → ℕ) a + (![1, 256] : Fin 2 → ℕ) a ≤ S1x256.size a) :
    v.readAt (Elt F) (Rect.unit (s := S1x256) ![0, 0] ![1, 256] inb).toLoadRect f = v.read (Elt F) f := View.readAt_full v f inb
theorem ld_1x128 (v : View sig .tc .vmem S1x128 .f32) (f : v.ty.Contents (Elt F)) (inb : ∀ a : Fin 2, (![0, 0] : Fin 2 → ℕ) a + (![1, 128] : Fin 2 → ℕ) a ≤ S1x128.size a) :
    v.readAt (Elt F) (Rect.unit (s := S1x128) ![0, 0] ![1, 128] inb).toLoadRect f = v.read (Elt F) f := View.readAt_full v f inb
theorem cov_1x1 (v : View sig .tc .vmem S1x1 .f32) (inb inb' : ∀ a : Fin 2, (![0, 0] : Fin 2 → ℕ) a + (![1, 1] : Fin 2 → ℕ) a ≤ S1x1.size a)
    (w : Vec F S1x1 .f32) (L : List (View.Piece (Elt F) S1x1 .f32)) :
    v.readCov (⟨Rect.unit (s := S1x1) ![0, 0] ![1, 1] inb', w⟩ :: L) (Rect.unit (s := S1x1) ![0, 0] ![1, 1] inb).toLoadRect = w :=
  View.readCov_full v inb inb' w L
theorem cov_1xH (v : View sig .tc .vmem S1x1024 .f32) (inb inb' : ∀ a : Fin 2, (![0, 0] : Fin 2 → ℕ) a + (![1, 1024] : Fin 2 → ℕ) a ≤ S1x1024.size a)
    (w : Vec F S1x1024 .f32) (L : List (View.Piece (Elt F) S1x1024 .f32)) :
    v.readCov (⟨Rect.unit (s := S1x1024) ![0, 0] ![1, 1024] inb', w⟩ :: L) (Rect.unit (s := S1x1024) ![0, 0] ![1, 1024] inb).toLoadRect = w :=
  View.readCov_full v inb inb' w L
theorem cov_HxH (v : View sig .tc .vmem S1024x1024 .f32) (inb inb' : ∀ a : Fin 2, (![0, 0] : Fin 2 → ℕ) a + (![1024, 1024] : Fin 2 → ℕ) a ≤ S1024x1024.size a)
    (w : Vec F S1024x1024 .f32) (L : List (View.Piece (Elt F) S1024x1024 .f32)) :
    v.readCov (⟨Rect.unit (s := S1024x1024) ![0, 0] ![1024, 1024] inb', w⟩ :: L) (Rect.unit (s := S1024x1024) ![0, 0] ![1024, 1024] inb).toLoadRect = w :=
  View.readCov_full v inb inb' w L
theorem cov_HxHl (v : View sig .tc .vmem S1024x1024 .bf16) (inb inb' : ∀ a : Fin 2, (![0, 0] : Fin 2 → ℕ) a + (![1024, 1024] : Fin 2 → ℕ) a ≤ S1024x1024.size a)
    (w : Vec F S1024x1024 .bf16) (L : List (View.Piece (Elt F) S1024x1024 .bf16)) :
    v.readCov (⟨Rect.unit (s := S1024x1024) ![0, 0] ![1024, 1024] inb', w⟩ :: L) (Rect.unit (s := S1024x1024) ![0, 0] ![1024, 1024] inb).toLoadRect = w :=
  View.readCov_full v inb inb' w L
theorem ld_rows (v : Memref sig .tc .vmem S1x1x2048x1024 .f32) (h : v.IsWhole) (x0 : Vec F S1x1x2048x1024 .f32) (o : ℕ)
    (inb : ∀ a : Fin 4, (![0, 0, o, 0] : Fin 4 → ℕ) a + (![1, 1, 512, 1024] : Fin 4 → ℕ) a ≤ S1x1x2048x1024.size a) :
    v.view.readAt (Elt F) (Rect.unit (s := S1x1x2048x1024) ![0, 0, o, 0] ![1, 1, 512, 1024] inb).toLoadRect (h.unread x0)
      = rows x0 o (inb 2) := by
  rw [View.readAt_unit v.view _ inb rfl inb, h.read_unread]; rfl

/-! ### What the first point of the grid leaves in the split weights, and the first tile of a batch in the softmax state -/

/-- Row `y` of the upper of two blocks of 128 rows. -/
def up (y : S256x1024.Idx) : S128x1024.Idx := fun a => match a with
  | ⟨0, _⟩ => ⟨(y 0).val % 128, Nat.mod_lt _ (by decide)⟩
  | ⟨1, _⟩ => ⟨(y 1).val, (y 1).isLt⟩
/-- Two blocks of 128 rows, one below the other. -/
def cat {e : EltTy} (a b : Vec F S128x1024 e) : Vec F S256x1024 e := VecWindow.put (fun y => a (up y)) ![128, 0] ![128, 1024] b
theorem read_cat {e : EltTy} (v : View sig .tc .vmem S256x1024 e) (f : v.ty.Contents (Elt F)) (a b : Vec F S128x1024 e)
    (inb : ∀ i : Fin 2, (![0, 0] : Fin 2 → ℕ) i + (![128, 1024] : Fin 2 → ℕ) i ≤ S256x1024.size i)
    (inb' : ∀ i : Fin 2, (![128, 0] : Fin 2 → ℕ) i + (![128, 1024] : Fin 2 → ℕ) i ≤ S256x1024.size i) :
    v.read (Elt F) (v.writes (Elt F) f [⟨Rect.unit (s := S256x1024) ![128, 0] ![128, 1024] inb', b⟩, ⟨Rect.unit (s := S256x1024) ![0, 0] ![128, 1024] inb, a⟩])
      = cat a b := by
  rw [View.read_writes_cons_put v f inb' b _ rfl, View.read_writes_cons_put v f inb a _ rfl]
  funext y
  unfold cat VecWindow.put
  split
  · rfl
  · rename_i h
    rw [dif_pos]
    rotate_left
    · intro i
      have h0 : (y 0).val < 128 := by
        by_contra hc
        apply h
        intro j
        have h1 := (y 1).isLt; have h2 := (y 0).isLt
        fin_cases j
        · exact ⟨by simpa using hc, by simpa using h2⟩
        · exact ⟨Nat.zero_le _, by simpa using h1⟩
      have h1 := (y 1).isLt
      fin_cases i
      · exact ⟨Nat.zero_le _, by simpa using h0⟩
      · exact ⟨Nat.zero_le _, by simpa using h1⟩
    · apply congrArg a
      have h0 : (y 0).val < 128 := by
        by_contra hc
        apply h
        intro j
        have h1 := (y 1).isLt; have h2 := (y 0).isLt
        fin_cases j
        · exact ⟨by simpa using hc, by simpa using h2⟩
        · exact ⟨Nat.zero_le _, by simpa using h1⟩
      funext i
      fin_cases i
      · exact Fin.ext (by simp [up, Rect.unitLocal, Nat.mod_eq_of_lt h0])
      · exact Fin.ext (by simp [up, Rect.unitLocal])
theorem cov_cat {e : EltTy} (v : View sig .tc .vmem S256x1024 e) (a b : Vec F S128x1024 e)
    (inb : ∀ i : Fin 2, (![0, 0] : Fin 2 → ℕ) i + (![128, 1024] : Fin 2 → ℕ) i ≤ S256x1024.size i)
    (inb' : ∀ i : Fin 2, (![128, 0] : Fin 2 → ℕ) i + (![128, 1024] : Fin 2 → ℕ) i ≤ S256x1024.size i)
    (inb2 : ∀ i : Fin 2, (![0, 0] : Fin 2 → ℕ) i + (![256, 1024] : Fin 2 → ℕ) i ≤ S256x1024.size i) :
    v.readCov [⟨Rect.unit (s := S256x1024) ![128, 0] ![128, 1024] inb', b⟩, ⟨Rect.unit (s := S256x1024) ![0, 0] ![128, 1024] inb, a⟩]
      (Rect.unit (s := S256x1024) ![0, 0] ![256, 1024] inb2).toLoadRect = cat a b :=
  (View.readAt_full v _ inb2).trans (read_cat v _ a b inb inb')
theorem ld_128xH (v : View sig .tc .vmem S128x1024 .f32) (f : v.ty.Contents (Elt F)) (inb : ∀ a : Fin 2, (![0, 0] : Fin 2 → ℕ) a + (![128, 1024] : Fin 2 → ℕ) a ≤ S128x1024.size a) :
    v.readAt (Elt F) (Rect.unit (s := S128x1024) ![0, 0] ![128, 1024] inb).toLoadRect f = v.read (Elt F) f := View.readAt_full v f inb

/-- The softmax state a batch starts with. -/
def init : St F := ⟨k0_pay17, k0_pay18, k0_pay19⟩
/-- The shared inputs, from the weights as the first point splits them. -/
def wts (x1 : Vec F S1024x1024 .f32) (x2 x3 : Vec F S128x1024 .f32) (x4 : Vec F S1x256 .f32) (x5 : Vec F S1x128 .f32) (x6 : Vec F S1x1 .f32) : Wts F :=
  ⟨k0_pay9 x1, k0_pay10 x1, cat (k0_pay12 x2) (k0_pay15 x3), cat (k0_pay13 x2) (k0_pay16 x3), x4, x5, x6⟩

/-! ### Every subtile's payloads are these functions -/

section Payloads

variable (x : Vec F S1x1x512x1024 .f32) (w1h : Vec F S1024x1024 .f32) (w1l : Vec F S1024x1024 .bf16) (vuh : Vec F S256x1024 .f32)
  (vul : Vec F S256x1024 .bf16) (vub : Vec F S1x256 .f32) (aw : Vec F S1x128 .f32) (ab : Vec F S1x1 .f32)
  (m s : Vec F S1x1 .f32) (a : Vec F S1x1024 .f32)

theorem sub0_l : k0_pay25 (k0_pay22 x w1h w1l vuh vul vub) (k0_pay23 x w1h w1l vuh vul vub) aw ab = lg (sc x w1h w1l vuh vul vub aw ab) := rfl
theorem sub0_m : k0_pay32 (k0_pay26 (k0_pay22 x w1h w1l vuh vul vub) (k0_pay23 x w1h w1l vuh vul vub) aw ab m)
    = mN (sc x w1h w1l vuh vul vub aw ab) m := rfl
theorem sub0_s : k0_pay29 (k0_pay22 x w1h w1l vuh vul vub) (k0_pay23 x w1h w1l vuh vul vub) aw ab m s
    = sN (sc x w1h w1l vuh vul vub aw ab) m s := rfl
theorem sub0_a : k0_pay31 (k0_pay30 (k0_pay20 x) (k0_pay22 x w1h w1l vuh vul vub) (k0_pay23 x w1h w1l vuh vul vub) aw ab m a)
    = aN x (sc x w1h w1l vuh vul vub aw ab) m a := rfl
theorem sub1_l : k0_pay36 (k0_pay34 x w1h w1l vuh vul vub aw) ab = lg (sc x w1h w1l vuh vul vub aw ab) := rfl
theorem sub1_m : k0_pay42 (k0_pay34 x w1h w1l vuh vul vub aw) ab m = mN (sc x w1h w1l vuh vul vub aw ab) m := rfl
theorem sub1_s : k0_pay40 (k0_pay34 x w1h w1l vuh vul vub aw) ab m s = sN (sc x w1h w1l vuh vul vub aw ab) m s := rfl
theorem sub1_a : k0_pay41 (k0_pay33 x) (k0_pay34 x w1h w1l vuh vul vub aw) ab m a = aN x (sc x w1h w1l vuh vul vub aw ab) m a := rfl
theorem sub2_l : k0_pay45 (k0_pay44 x w1h w1l vuh vul vub aw ab) = lg (sc x w1h w1l vuh vul vub aw ab) := rfl
theorem sub2_m : k0_pay51 (k0_pay44 x w1h w1l vuh vul vub aw ab) m = mN (sc x w1h w1l vuh vul vub aw ab) m := rfl
theorem sub2_s : k0_pay49 (k0_pay44 x w1h w1l vuh vul vub aw ab) m s = sN (sc x w1h w1l vuh vul vub aw ab) m s := rfl
theorem sub2_a : k0_pay50 (k0_pay43 x) (k0_pay44 x w1h w1l vuh vul vub aw ab) m a = aN x (sc x w1h w1l vuh vul vub aw ab) m a := rfl
theorem sub3_l : k0_pay54 (k0_pay52 x) w1h w1l vuh vul vub aw ab = lg (sc x w1h w1l vuh vul vub aw ab) := rfl
theorem sub3_m : k0_pay6 (k0_pay53 (k0_pay52 x) w1h w1l vuh vul vub aw ab) m = mN (sc x w1h w1l vuh vul vub aw ab) m := rfl
theorem sub3_s : k0_pay4 (k0_pay53 (k0_pay52 x) w1h w1l vuh vul vub aw ab) m s = sN (sc x w1h w1l vuh vul vub aw ab) m s := rfl
theorem sub3_a : k0_pay5 (k0_pay52 x) (k0_pay53 (k0_pay52 x) w1h w1l vuh vul vub aw ab) m a
    = aN x (sc x w1h w1l vuh vul vub aw ab) m a := rfl

end Payloads

end Cert.KernelIdeal.Hand
end
-- ==== Proof.Stage1RunA.lean ====
module

public import proofs.«01_k».proof.Proof.Stage1Step
public import Idealize.ShloMosaic.Lib.Pipeline.FrameBody
public import Idealize.ShloMosaic.Lib.Ring
public import Idealize.ShloMosaic.Lib.VecWindow
public import Idealize.ShloMosaic.Lib.WholeRead
public import Idealize.ShloMosaic.Lib.Tactic
public import Idealize.ShloMosaic.Lib.WordCmp
public import Idealize.ShloMosaic.Lib.Pipeline.FrameValue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

section Run

variable (c : Dev nD) (i : grid0.Coords)
  (arg2 : Memref sig .tc .vmem S1x1x2048x1024 .f32) (harg2 : arg2.IsWhole) (arg3 : Memref sig .tc .vmem S1024x1024 .f32) (harg3 : arg3.IsWhole)
  (arg4 : Memref sig .tc .vmem S128x1024 .f32) (harg4 : arg4.IsWhole) (arg5 : Memref sig .tc .vmem S128x1024 .f32) (harg5 : arg5.IsWhole)
  (arg6 : Memref sig .tc .vmem S1x256 .f32) (harg6 : arg6.IsWhole) (arg7 : Memref sig .tc .vmem S1x128 .f32) (harg7 : arg7.IsWhole)
  (arg8 : Memref sig .tc .vmem S1x1 .f32) (harg8 : arg8.IsWhole) (arg9 : Memref sig .tc .vmem S1x1x4096 .f32) (harg9 : arg9.IsWhole)
  (arg10 : Memref sig .tc .vmem S1x1x1024 .f32) (harg10 : arg10.IsWhole) (arg11 : Memref sig .tc .vmem S1x1 .f32) (harg11 : arg11.IsWhole)
  (arg12 : Memref sig .tc .vmem S1x1 .f32) (harg12 : arg12.IsWhole) (arg13 : Memref sig .tc .vmem S1x1024 .f32) (harg13 : arg13.IsWhole)
  (arg14 : Memref sig .tc .vmem S1024x1024 .f32) (harg14 : arg14.IsWhole) (arg15 : Memref sig .tc .vmem S1024x1024 .bf16) (harg15 : arg15.IsWhole)
  (arg16 : Memref sig .tc .vmem S256x1024 .f32) (harg16 : arg16.IsWhole) (arg17 : Memref sig .tc .vmem S256x1024 .bf16) (harg17 : arg17.IsWhole)
  (x0 : Vec F S1x1x2048x1024 .f32) (x1 : Vec F S1024x1024 .f32) (x2 : Vec F S128x1024 .f32) (x3 : Vec F S128x1024 .f32)
  (x4 : Vec F S1x256 .f32) (x5 : Vec F S1x128 .f32) (x6 : Vec F S1x1 .f32)
  (xs0 : Vec F S1x1 .f32) (xs1 : Vec F S1x1 .f32) (xs2 : Vec F S1x1024 .f32) (xs3 : Vec F S1024x1024 .f32)
  (xs4 : Vec F S1024x1024 .bf16) (xs5 : Vec F S256x1024 .f32) (xs6 : Vec F S256x1024 .bf16)
  (y7 : Vec F S1x1x4096 .f32) (y8 : Vec F S1x1x1024 .f32)

set_option maxHeartbeats 1600000 in
/-- The body at the first point of the grid: the weights are split, the softmax state starts afresh, one tile is done. -/
theorem run_A (hc0 : first i) (hc1 : reset i) (hc2 : ¬final i) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare y7
        ∗ owns (c : Thread nD τ) arg10 fullShare y8
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare (tileL (wts x1 x2 x3 x4 x5 x6) i x0 y7)
          ∗ owns (c : Thread nD τ) arg10 fullShare y8
          ∗ owns (c : Thread nD τ) arg11 fullShare (tile (wts x1 x2 x3 x4 x5 x6) x0 init).m
          ∗ owns (c : Thread nD τ) arg12 fullShare (tile (wts x1 x2 x3 x4 x5 x6) x0 init).s
          ∗ owns (c : Thread nD τ) arg13 fullShare (tile (wts x1 x2 x3 x4 x5 x6) x0 init).a
          ∗ owns (c : Thread nD τ) arg14 fullShare (k0_pay9 x1)
          ∗ owns (c : Thread nD τ) arg15 fullShare (k0_pay10 x1)
          ∗ owns (c : Thread nD τ) arg16 fullShare (cat (k0_pay12 x2) (k0_pay15 x3))
          ∗ owns (c : Thread nD τ) arg17 fullShare (cat (k0_pay13 x2) (k0_pay16 x3)) -∗ K ⟨⟩))
      ⊢ wp frame (wpE (defs₀ (F := F)) Variants.none c none) E (cc0__stage1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__stage1_body_eq_skeleton]; unfold cc0__stage1_body_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%fH0, %hH0, H0⟩, ⟨%fH1, %hH1, H1⟩, ⟨%fH2, %hH2, H2⟩, ⟨%fH3, %hH3, H3⟩, ⟨%fH4, %hH4, H4⟩, ⟨%fH5, %hH5, H5⟩, ⟨%fH6, %hH6, H6⟩, ⟨%fH7, %hH7, H7⟩, ⟨%fH8, %hH8, H8⟩, ⟨%dHS0, %fHS0, -, HS0⟩, ⟨%dHS1, %fHS1, -, HS1⟩, ⟨%dHS2, %fHS2, -, HS2⟩, ⟨%dHS3, %fHS3, -, HS3⟩, ⟨%dHS4, %fHS4, -, HS4⟩, ⟨%dHS5, %fHS5, -, HS5⟩, ⟨%dHS6, %fHS6, -, HS6⟩, Hk⟩
  obtain rfl := harg2.eq_unread hH0
  obtain rfl := harg3.eq_unread hH1
  obtain rfl := harg4.eq_unread hH2
  obtain rfl := harg5.eq_unread hH3
  obtain rfl := harg6.eq_unread hH4
  obtain rfl := harg7.eq_unread hH5
  obtain rfl := harg8.eq_unread hH6
  obtain rfl := harg9.eq_unread hH7
  obtain rfl := harg10.eq_unread hH8
  sl_exec (disch := first | sl_exact hc0 | sl_exact hc1 | sl_exact hc2)
  sl_step
  iapply Hk
  isplitl [H0]
  · iexists _; isplitr; swap
    · iexact H0
    ipureintro
    exact harg2.read_unread _
  isplitl [H1]
  · iexists _; isplitr; swap
    · iexact H1
    ipureintro
    exact harg3.read_unread _
  isplitl [H2]
  · iexists _; isplitr; swap
    · iexact H2
    ipureintro
    exact harg4.read_unread _
  isplitl [H3]
  · iexists _; isplitr; swap
    · iexact H3
    ipureintro
    exact harg5.read_unread _
  isplitl [H4]
  · iexists _; isplitr; swap
    · iexact H4
    ipureintro
    exact harg6.read_unread _
  isplitl [H5]
  · iexists _; isplitr; swap
    · iexact H5
    ipureintro
    exact harg7.read_unread _
  isplitl [H6]
  · iexists _; isplitr; swap
    · iexact H6
    ipureintro
    exact harg8.read_unread _
  isplitl [H7]
  · iexists _; isplitr; swap
    · iexact H7
    ipureintro
    delta run_A.sl.HS0_1 run_A.sl.HS0_2 run_A.sl.HS0_3 run_A.sl.HS0_4 run_A.sl.HS1_1 run_A.sl.HS1_2 run_A.sl.HS1_3 run_A.sl.HS1_4 run_A.sl.HS2_1 run_A.sl.HS2_2 run_A.sl.HS2_3 run_A.sl.HS2_4 run_A.sl.HS3_1 run_A.sl.HS4_1 run_A.sl.HS5_2 run_A.sl.HS6_2 run_A.sl.r run_A.sl.r_1 run_A.sl.r_10 run_A.sl.r_11 run_A.sl.r_2 run_A.sl.r_3 run_A.sl.r_4 run_A.sl.r_5 run_A.sl.r_6 run_A.sl.r_7 run_A.sl.r_8 run_A.sl.r_9 run_A.sl.v0 run_A.sl.v1 run_A.sl.v10 run_A.sl.v112 run_A.sl.v119 run_A.sl.v128 run_A.sl.v13 run_A.sl.v169 run_A.sl.v170 run_A.sl.v177 run_A.sl.v18 run_A.sl.v184 run_A.sl.v193 run_A.sl.v2 run_A.sl.v21 run_A.sl.v242 run_A.sl.v249 run_A.sl.v258 run_A.sl.v3 run_A.sl.v4 run_A.sl.v47 run_A.sl.v54 run_A.sl.v6 run_A.sl.v63 run_A.sl.v7
    simp only [ld_1x1, ld_1xH, ld_HxH, ld_HxHl, ld_256xH, ld_256xHl, ld_1x256, ld_1x128, ld_128xH, ld_rows, cov_1x1, cov_1xH, cov_HxH, cov_HxHl, cov_cat, Memref.IsWhole.read_unread, sub0_l, sub0_m, sub0_s, sub0_a, sub1_l, sub1_m, sub1_s, sub1_a, sub2_l, sub2_m, sub2_s, sub2_a, sub3_l, sub3_m, sub3_s, sub3_a]
    refine (View.read_writes_cons_put _ _ _ _ _ rfl).trans ?_
    rw [View.read_writes_cons_put _ _ _ _ _ rfl, View.read_writes_cons_put _ _ _ _ _ rfl, View.read_writes_cons_put _ _ _ _ _ rfl, View.writes_nil, harg9.read_unread]
    rfl
  isplitl [H8]
  · iexists _; isplitr; swap
    · iexact H8
    ipureintro
    exact harg10.read_unread _
  isplitl [HS0]
  · iexists _; isplitr; swap
    · iexact HS0
    ipureintro
    delta run_A.sl.HS0_1 run_A.sl.HS0_2 run_A.sl.HS0_3 run_A.sl.HS0_4 run_A.sl.HS1_1 run_A.sl.HS1_2 run_A.sl.HS1_3 run_A.sl.HS1_4 run_A.sl.HS2_1 run_A.sl.HS2_2 run_A.sl.HS2_3 run_A.sl.HS2_4 run_A.sl.HS3_1 run_A.sl.HS4_1 run_A.sl.HS5_2 run_A.sl.HS6_2 run_A.sl.r run_A.sl.r_1 run_A.sl.r_10 run_A.sl.r_11 run_A.sl.r_2 run_A.sl.r_3 run_A.sl.r_4 run_A.sl.r_5 run_A.sl.r_6 run_A.sl.r_7 run_A.sl.r_8 run_A.sl.r_9 run_A.sl.v0 run_A.sl.v1 run_A.sl.v10 run_A.sl.v112 run_A.sl.v119 run_A.sl.v128 run_A.sl.v13 run_A.sl.v169 run_A.sl.v170 run_A.sl.v177 run_A.sl.v18 run_A.sl.v184 run_A.sl.v193 run_A.sl.v2 run_A.sl.v21 run_A.sl.v242 run_A.sl.v249 run_A.sl.v258 run_A.sl.v3 run_A.sl.v4 run_A.sl.v47 run_A.sl.v54 run_A.sl.v6 run_A.sl.v63 run_A.sl.v7
    refine (View.read_writes_full _ _ _ _ _).trans ?_
    simp only [ld_1x1, ld_1xH, ld_HxH, ld_HxHl, ld_256xH, ld_256xHl, ld_1x256, ld_1x128, ld_128xH, ld_rows, cov_1x1, cov_1xH, cov_HxH, cov_HxHl, cov_cat, Memref.IsWhole.read_unread, sub0_l, sub0_m, sub0_s, sub0_a, sub1_l, sub1_m, sub1_s, sub1_a, sub2_l, sub2_m, sub2_s, sub2_a, sub3_l, sub3_m, sub3_s, sub3_a]
    rfl
  isplitl [HS1]
  · iexists _; isplitr; swap
    · iexact HS1
    ipureintro
    delta run_A.sl.HS0_1 run_A.sl.HS0_2 run_A.sl.HS0_3 run_A.sl.HS0_4 run_A.sl.HS1_1 run_A.sl.HS1_2 run_A.sl.HS1_3 run_A.sl.HS1_4 run_A.sl.HS2_1 run_A.sl.HS2_2 run_A.sl.HS2_3 run_A.sl.HS2_4 run_A.sl.HS3_1 run_A.sl.HS4_1 run_A.sl.HS5_2 run_A.sl.HS6_2 run_A.sl.r run_A.sl.r_1 run_A.sl.r_10 run_A.sl.r_11 run_A.sl.r_2 run_A.sl.r_3 run_A.sl.r_4 run_A.sl.r_5 run_A.sl.r_6 run_A.sl.r_7 run_A.sl.r_8 run_A.sl.r_9 run_A.sl.v0 run_A.sl.v1 run_A.sl.v10 run_A.sl.v112 run_A.sl.v119 run_A.sl.v128 run_A.sl.v13 run_A.sl.v169 run_A.sl.v170 run_A.sl.v177 run_A.sl.v18 run_A.sl.v184 run_A.sl.v193 run_A.sl.v2 run_A.sl.v21 run_A.sl.v242 run_A.sl.v249 run_A.sl.v258 run_A.sl.v3 run_A.sl.v4 run_A.sl.v47 run_A.sl.v54 run_A.sl.v6 run_A.sl.v63 run_A.sl.v7
    refine (View.read_writes_full _ _ _ _ _).trans ?_
    simp only [ld_1x1, ld_1xH, ld_HxH, ld_HxHl, ld_256xH, ld_256xHl, ld_1x256, ld_1x128, ld_128xH, ld_rows, cov_1x1, cov_1xH, cov_HxH, cov_HxHl, cov_cat, Memref.IsWhole.read_unread, sub0_l, sub0_m, sub0_s, sub0_a, sub1_l, sub1_m, sub1_s, sub1_a, sub2_l, sub2_m, sub2_s, sub2_a, sub3_l, sub3_m, sub3_s, sub3_a]
    rfl
  isplitl [HS2]
  · iexists _; isplitr; swap
    · iexact HS2
    ipureintro
    delta run_A.sl.HS0_1 run_A.sl.HS0_2 run_A.sl.HS0_3 run_A.sl.HS0_4 run_A.sl.HS1_1 run_A.sl.HS1_2 run_A.sl.HS1_3 run_A.sl.HS1_4 run_A.sl.HS2_1 run_A.sl.HS2_2 run_A.sl.HS2_3 run_A.sl.HS2_4 run_A.sl.HS3_1 run_A.sl.HS4_1 run_A.sl.HS5_2 run_A.sl.HS6_2 run_A.sl.r run_A.sl.r_1 run_A.sl.r_10 run_A.sl.r_11 run_A.sl.r_2 run_A.sl.r_3 run_A.sl.r_4 run_A.sl.r_5 run_A.sl.r_6 run_A.sl.r_7 run_A.sl.r_8 run_A.sl.r_9 run_A.sl.v0 run_A.sl.v1 run_A.sl.v10 run_A.sl.v112 run_A.sl.v119 run_A.sl.v128 run_A.sl.v13 run_A.sl.v169 run_A.sl.v170 run_A.sl.v177 run_A.sl.v18 run_A.sl.v184 run_A.sl.v193 run_A.sl.v2 run_A.sl.v21 run_A.sl.v242 run_A.sl.v249 run_A.sl.v258 run_A.sl.v3 run_A.sl.v4 run_A.sl.v47 run_A.sl.v54 run_A.sl.v6 run_A.sl.v63 run_A.sl.v7
    refine (View.read_writes_full _ _ _ _ _).trans ?_
    simp only [ld_1x1, ld_1xH, ld_HxH, ld_HxHl, ld_256xH, ld_256xHl, ld_1x256, ld_1x128, ld_128xH, ld_rows, cov_1x1, cov_1xH, cov_HxH, cov_HxHl, cov_cat, Memref.IsWhole.read_unread, sub0_l, sub0_m, sub0_s, sub0_a, sub1_l, sub1_m, sub1_s, sub1_a, sub2_l, sub2_m, sub2_s, sub2_a, sub3_l, sub3_m, sub3_s, sub3_a]
    rfl
  isplitl [HS3]
  · iexists _; isplitr; swap
    · iexact HS3
    ipureintro
    delta run_A.sl.HS0_1 run_A.sl.HS0_2 run_A.sl.HS0_3 run_A.sl.HS0_4 run_A.sl.HS1_1 run_A.sl.HS1_2 run_A.sl.HS1_3 run_A.sl.HS1_4 run_A.sl.HS2_1 run_A.sl.HS2_2 run_A.sl.HS2_3 run_A.sl.HS2_4 run_A.sl.HS3_1 run_A.sl.HS4_1 run_A.sl.HS5_2 run_A.sl.HS6_2 run_A.sl.r run_A.sl.r_1 run_A.sl.r_10 run_A.sl.r_11 run_A.sl.r_2 run_A.sl.r_3 run_A.sl.r_4 run_A.sl.r_5 run_A.sl.r_6 run_A.sl.r_7 run_A.sl.r_8 run_A.sl.r_9 run_A.sl.v0 run_A.sl.v1 run_A.sl.v10 run_A.sl.v112 run_A.sl.v119 run_A.sl.v128 run_A.sl.v13 run_A.sl.v169 run_A.sl.v170 run_A.sl.v177 run_A.sl.v18 run_A.sl.v184 run_A.sl.v193 run_A.sl.v2 run_A.sl.v21 run_A.sl.v242 run_A.sl.v249 run_A.sl.v258 run_A.sl.v3 run_A.sl.v4 run_A.sl.v47 run_A.sl.v54 run_A.sl.v6 run_A.sl.v63 run_A.sl.v7
    refine (View.read_writes_full _ _ _ _ _).trans ?_
    simp only [ld_1x1, ld_1xH, ld_HxH, ld_HxHl, ld_256xH, ld_256xHl, ld_1x256, ld_1x128, ld_128xH, ld_rows, cov_1x1, cov_1xH, cov_HxH, cov_HxHl, cov_cat, Memref.IsWhole.read_unread, sub0_l, sub0_m, sub0_s, sub0_a, sub1_l, sub1_m, sub1_s, sub1_a, sub2_l, sub2_m, sub2_s, sub2_a, sub3_l, sub3_m, sub3_s, sub3_a]
  isplitl [HS4]
  · iexists _; isplitr; swap
    · iexact HS4
    ipureintro
    delta run_A.sl.HS0_1 run_A.sl.HS0_2 run_A.sl.HS0_3 run_A.sl.HS0_4 run_A.sl.HS1_1 run_A.sl.HS1_2 run_A.sl.HS1_3 run_A.sl.HS1_4 run_A.sl.HS2_1 run_A.sl.HS2_2 run_A.sl.HS2_3 run_A.sl.HS2_4 run_A.sl.HS3_1 run_A.sl.HS4_1 run_A.sl.HS5_2 run_A.sl.HS6_2 run_A.sl.r run_A.sl.r_1 run_A.sl.r_10 run_A.sl.r_11 run_A.sl.r_2 run_A.sl.r_3 run_A.sl.r_4 run_A.sl.r_5 run_A.sl.r_6 run_A.sl.r_7 run_A.sl.r_8 run_A.sl.r_9 run_A.sl.v0 run_A.sl.v1 run_A.sl.v10 run_A.sl.v112 run_A.sl.v119 run_A.sl.v128 run_A.sl.v13 run_A.sl.v169 run_A.sl.v170 run_A.sl.v177 run_A.sl.v18 run_A.sl.v184 run_A.sl.v193 run_A.sl.v2 run_A.sl.v21 run_A.sl.v242 run_A.sl.v249 run_A.sl.v258 run_A.sl.v3 run_A.sl.v4 run_A.sl.v47 run_A.sl.v54 run_A.sl.v6 run_A.sl.v63 run_A.sl.v7
    refine (View.read_writes_full _ _ _ _ _).trans ?_
    simp only [ld_1x1, ld_1xH, ld_HxH, ld_HxHl, ld_256xH, ld_256xHl, ld_1x256, ld_1x128, ld_128xH, ld_rows, cov_1x1, cov_1xH, cov_HxH, cov_HxHl, cov_cat, Memref.IsWhole.read_unread, sub0_l, sub0_m, sub0_s, sub0_a, sub1_l, sub1_m, sub1_s, sub1_a, sub2_l, sub2_m, sub2_s, sub2_a, sub3_l, sub3_m, sub3_s, sub3_a]
  isplitl [HS5]
  · iexists _; isplitr; swap
    · iexact HS5
    ipureintro
    delta run_A.sl.HS0_1 run_A.sl.HS0_2 run_A.sl.HS0_3 run_A.sl.HS0_4 run_A.sl.HS1_1 run_A.sl.HS1_2 run_A.sl.HS1_3 run_A.sl.HS1_4 run_A.sl.HS2_1 run_A.sl.HS2_2 run_A.sl.HS2_3 run_A.sl.HS2_4 run_A.sl.HS3_1 run_A.sl.HS4_1 run_A.sl.HS5_2 run_A.sl.HS6_2 run_A.sl.r run_A.sl.r_1 run_A.sl.r_10 run_A.sl.r_11 run_A.sl.r_2 run_A.sl.r_3 run_A.sl.r_4 run_A.sl.r_5 run_A.sl.r_6 run_A.sl.r_7 run_A.sl.r_8 run_A.sl.r_9 run_A.sl.v0 run_A.sl.v1 run_A.sl.v10 run_A.sl.v112 run_A.sl.v119 run_A.sl.v128 run_A.sl.v13 run_A.sl.v169 run_A.sl.v170 run_A.sl.v177 run_A.sl.v18 run_A.sl.v184 run_A.sl.v193 run_A.sl.v2 run_A.sl.v21 run_A.sl.v242 run_A.sl.v249 run_A.sl.v258 run_A.sl.v3 run_A.sl.v4 run_A.sl.v47 run_A.sl.v54 run_A.sl.v6 run_A.sl.v63 run_A.sl.v7
    simp only [ld_1x1, ld_1xH, ld_HxH, ld_HxHl, ld_256xH, ld_256xHl, ld_1x256, ld_1x128, ld_128xH, ld_rows, cov_1x1, cov_1xH, cov_HxH, cov_HxHl, cov_cat, Memref.IsWhole.read_unread, sub0_l, sub0_m, sub0_s, sub0_a, sub1_l, sub1_m, sub1_s, sub1_a, sub2_l, sub2_m, sub2_s, sub2_a, sub3_l, sub3_m, sub3_s, sub3_a]
    exact read_cat _ _ _ _ _ _
  iexists _; isplitr; swap
  · iexact HS6
  ipureintro
  delta run_A.sl.HS0_1 run_A.sl.HS0_2 run_A.sl.HS0_3 run_A.sl.HS0_4 run_A.sl.HS1_1 run_A.sl.HS1_2 run_A.sl.HS1_3 run_A.sl.HS1_4 run_A.sl.HS2_1 run_A.sl.HS2_2 run_A.sl.HS2_3 run_A.sl.HS2_4 run_A.sl.HS3_1 run_A.sl.HS4_1 run_A.sl.HS5_2 run_A.sl.HS6_2 run_A.sl.r run_A.sl.r_1 run_A.sl.r_10 run_A.sl.r_11 run_A.sl.r_2 run_A.sl.r_3 run_A.sl.r_4 run_A.sl.r_5 run_A.sl.r_6 run_A.sl.r_7 run_A.sl.r_8 run_A.sl.r_9 run_A.sl.v0 run_A.sl.v1 run_A.sl.v10 run_A.sl.v112 run_A.sl.v119 run_A.sl.v128 run_A.sl.v13 run_A.sl.v169 run_A.sl.v170 run_A.sl.v177 run_A.sl.v18 run_A.sl.v184 run_A.sl.v193 run_A.sl.v2 run_A.sl.v21 run_A.sl.v242 run_A.sl.v249 run_A.sl.v258 run_A.sl.v3 run_A.sl.v4 run_A.sl.v47 run_A.sl.v54 run_A.sl.v6 run_A.sl.v63 run_A.sl.v7
  simp only [ld_1x1, ld_1xH, ld_HxH, ld_HxHl, ld_256xH, ld_256xHl, ld_1x256, ld_1x128, ld_128xH, ld_rows, cov_1x1, cov_1xH, cov_HxH, cov_HxHl, cov_cat, Memref.IsWhole.read_unread, sub0_l, sub0_m, sub0_s, sub0_a, sub1_l, sub1_m, sub1_s, sub1_a, sub2_l, sub2_m, sub2_s, sub2_a, sub3_l, sub3_m, sub3_s, sub3_a]
  exact read_cat _ _ _ _ _ _

end Run

end Cert.KernelIdeal.Hand
end
-- ==== Proof.Stage1RunB.lean ====
module

public import proofs.«01_k».proof.Proof.Stage1Step
public import Idealize.ShloMosaic.Lib.Pipeline.FrameBody
public import Idealize.ShloMosaic.Lib.Ring
public import Idealize.ShloMosaic.Lib.VecWindow
public import Idealize.ShloMosaic.Lib.WholeRead
public import Idealize.ShloMosaic.Lib.Tactic
public import Idealize.ShloMosaic.Lib.WordCmp
public import Idealize.ShloMosaic.Lib.Pipeline.FrameValue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

section Run

variable (c : Dev nD) (i : grid0.Coords)
  (arg2 : Memref sig .tc .vmem S1x1x2048x1024 .f32) (harg2 : arg2.IsWhole) (arg3 : Memref sig .tc .vmem S1024x1024 .f32) (harg3 : arg3.IsWhole)
  (arg4 : Memref sig .tc .vmem S128x1024 .f32) (harg4 : arg4.IsWhole) (arg5 : Memref sig .tc .vmem S128x1024 .f32) (harg5 : arg5.IsWhole)
  (arg6 : Memref sig .tc .vmem S1x256 .f32) (harg6 : arg6.IsWhole) (arg7 : Memref sig .tc .vmem S1x128 .f32) (harg7 : arg7.IsWhole)
  (arg8 : Memref sig .tc .vmem S1x1 .f32) (harg8 : arg8.IsWhole) (arg9 : Memref sig .tc .vmem S1x1x4096 .f32) (harg9 : arg9.IsWhole)
  (arg10 : Memref sig .tc .vmem S1x1x1024 .f32) (harg10 : arg10.IsWhole) (arg11 : Memref sig .tc .vmem S1x1 .f32) (harg11 : arg11.IsWhole)
  (arg12 : Memref sig .tc .vmem S1x1 .f32) (harg12 : arg12.IsWhole) (arg13 : Memref sig .tc .vmem S1x1024 .f32) (harg13 : arg13.IsWhole)
  (arg14 : Memref sig .tc .vmem S1024x1024 .f32) (harg14 : arg14.IsWhole) (arg15 : Memref sig .tc .vmem S1024x1024 .bf16) (harg15 : arg15.IsWhole)
  (arg16 : Memref sig .tc .vmem S256x1024 .f32) (harg16 : arg16.IsWhole) (arg17 : Memref sig .tc .vmem S256x1024 .bf16) (harg17 : arg17.IsWhole)
  (x0 : Vec F S1x1x2048x1024 .f32) (x1 : Vec F S1024x1024 .f32) (x2 : Vec F S128x1024 .f32) (x3 : Vec F S128x1024 .f32)
  (x4 : Vec F S1x256 .f32) (x5 : Vec F S1x128 .f32) (x6 : Vec F S1x1 .f32)
  (xs0 : Vec F S1x1 .f32) (xs1 : Vec F S1x1 .f32) (xs2 : Vec F S1x1024 .f32) (xs3 : Vec F S1024x1024 .f32)
  (xs4 : Vec F S1024x1024 .bf16) (xs5 : Vec F S256x1024 .f32) (xs6 : Vec F S256x1024 .bf16)
  (y7 : Vec F S1x1x4096 .f32) (y8 : Vec F S1x1x1024 .f32)

set_option maxHeartbeats 1600000 in
/-- The body at the last tile of a batch: one tile is done and the quotient is stored. -/
theorem run_B (hc0 : ¬first i) (hc1 : ¬reset i) (hc2 : final i) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare y7
        ∗ (∃ d, owns (c : Thread nD τ) arg10 fullShare d)
        ∗ owns (c : Thread nD τ) arg11 fullShare xs0
        ∗ owns (c : Thread nD τ) arg12 fullShare xs1
        ∗ owns (c : Thread nD τ) arg13 fullShare xs2
        ∗ owns (c : Thread nD τ) arg14 fullShare xs3
        ∗ owns (c : Thread nD τ) arg15 fullShare xs4
        ∗ owns (c : Thread nD τ) arg16 fullShare xs5
        ∗ owns (c : Thread nD τ) arg17 fullShare xs6
        ∗ (owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare (tileL ⟨xs3, xs4, xs5, xs6, x4, x5, x6⟩ i x0 y7)
          ∗ owns (c : Thread nD τ) arg10 fullShare (k0_pay7 (tile ⟨xs3, xs4, xs5, xs6, x4, x5, x6⟩ x0 ⟨xs0, xs1, xs2⟩).a (tile ⟨xs3, xs4, xs5, xs6, x4, x5, x6⟩ x0 ⟨xs0, xs1, xs2⟩).s)
          ∗ owns (c : Thread nD τ) arg11 fullShare (tile ⟨xs3, xs4, xs5, xs6, x4, x5, x6⟩ x0 ⟨xs0, xs1, xs2⟩).m
          ∗ owns (c : Thread nD τ) arg12 fullShare (tile ⟨xs3, xs4, xs5, xs6, x4, x5, x6⟩ x0 ⟨xs0, xs1, xs2⟩).s
          ∗ owns (c : Thread nD τ) arg13 fullShare (tile ⟨xs3, xs4, xs5, xs6, x4, x5, x6⟩ x0 ⟨xs0, xs1, xs2⟩).a
          ∗ owns (c : Thread nD τ) arg14 fullShare xs3
          ∗ owns (c : Thread nD τ) arg15 fullShare xs4
          ∗ owns (c : Thread nD τ) arg16 fullShare xs5
          ∗ owns (c : Thread nD τ) arg17 fullShare xs6 -∗ K ⟨⟩))
      ⊢ wp frame (wpE (defs₀ (F := F)) Variants.none c none) E (cc0__stage1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__stage1_body_eq_skeleton]; unfold cc0__stage1_body_skel
  simp only [k0_part2_eq_skeleton, k0_part3_eq_skeleton, k0_part4_eq_skeleton, k0_part5_eq_skeleton, k0_part6_eq_skeleton, k0_part7_eq_skeleton, k0_part8_eq_skeleton]
  unfold owns
  iintro ⟨⟨%fH0, %hH0, H0⟩, ⟨%fH1, %hH1, H1⟩, ⟨%fH2, %hH2, H2⟩, ⟨%fH3, %hH3, H3⟩, ⟨%fH4, %hH4, H4⟩, ⟨%fH5, %hH5, H5⟩, ⟨%fH6, %hH6, H6⟩, ⟨%fH7, %hH7, H7⟩, ⟨%dH8, %fH8, -, H8⟩, ⟨%fHS0, %hHS0, HS0⟩, ⟨%fHS1, %hHS1, HS1⟩, ⟨%fHS2, %hHS2, HS2⟩, ⟨%fHS3, %hHS3, HS3⟩, ⟨%fHS4, %hHS4, HS4⟩, ⟨%fHS5, %hHS5, HS5⟩, ⟨%fHS6, %hHS6, HS6⟩, Hk⟩
  obtain rfl := harg2.eq_unread hH0
  obtain rfl := harg3.eq_unread hH1
  obtain rfl := harg4.eq_unread hH2
  obtain rfl := harg5.eq_unread hH3
  obtain rfl := harg6.eq_unread hH4
  obtain rfl := harg7.eq_unread hH5
  obtain rfl := harg8.eq_unread hH6
  obtain rfl := harg9.eq_unread hH7
  obtain rfl := harg11.eq_unread hHS0
  obtain rfl := harg12.eq_unread hHS1
  obtain rfl := harg13.eq_unread hHS2
  obtain rfl := harg14.eq_unread hHS3
  obtain rfl := harg15.eq_unread hHS4
  obtain rfl := harg16.eq_unread hHS5
  obtain rfl := harg17.eq_unread hHS6
  sl_exec (disch := first | sl_exact hc0 | sl_exact hc1 | sl_exact hc2)
  sl_step
  iapply Hk
  isplitl [H0]
  · iexists _; isplitr; swap
    · iexact H0
    ipureintro
    exact harg2.read_unread _
  isplitl [H1]
  · iexists _; isplitr; swap
    · iexact H1
    ipureintro
    exact harg3.read_unread _
  isplitl [H2]
  · iexists _; isplitr; swap
    · iexact H2
    ipureintro
    exact harg4.read_unread _
  isplitl [H3]
  · iexists _; isplitr; swap
    · iexact H3
    ipureintro
    exact harg5.read_unread _
  isplitl [H4]
  · iexists _; isplitr; swap
    · iexact H4
    ipureintro
    exact harg6.read_unread _
  isplitl [H5]
  · iexists _; isplitr; swap
    · iexact H5
    ipureintro
    exact harg7.read_unread _
  isplitl [H6]
  · iexists _; isplitr; swap
    · iexact H6
    ipureintro
    exact harg8.read_unread _
  isplitl [H7]
  · iexists _; isplitr; swap
    · iexact H7
    ipureintro
    delta run_B.sl.HS0_1 run_B.sl.HS0_2 run_B.sl.HS0_3 run_B.sl.HS1_1 run_B.sl.HS1_2 run_B.sl.HS1_3 run_B.sl.HS1_4 run_B.sl.HS2_1 run_B.sl.HS2_2 run_B.sl.HS2_3 run_B.sl.HS2_4 run_B.sl.r run_B.sl.r_1 run_B.sl.r_10 run_B.sl.r_11 run_B.sl.r_12 run_B.sl.r_2 run_B.sl.r_3 run_B.sl.r_4 run_B.sl.r_5 run_B.sl.r_6 run_B.sl.r_7 run_B.sl.r_8 run_B.sl.r_9 run_B.sl.v0 run_B.sl.v1 run_B.sl.v112 run_B.sl.v119 run_B.sl.v128 run_B.sl.v169 run_B.sl.v170 run_B.sl.v177 run_B.sl.v184 run_B.sl.v193 run_B.sl.v2 run_B.sl.v242 run_B.sl.v249 run_B.sl.v258 run_B.sl.v271 run_B.sl.v272 run_B.sl.v3 run_B.sl.v4 run_B.sl.v6 run_B.sl.v7
    simp only [ld_1x1, ld_1xH, ld_HxH, ld_HxHl, ld_256xH, ld_256xHl, ld_1x256, ld_1x128, ld_128xH, ld_rows, cov_1x1, cov_1xH, cov_HxH, cov_HxHl, cov_cat, Memref.IsWhole.read_unread, sub0_l, sub0_m, sub0_s, sub0_a, sub1_l, sub1_m, sub1_s, sub1_a, sub2_l, sub2_m, sub2_s, sub2_a, sub3_l, sub3_m, sub3_s, sub3_a]
    refine (View.read_writes_cons_put _ _ _ _ _ rfl).trans ?_
    rw [View.read_writes_cons_put _ _ _ _ _ rfl, View.read_writes_cons_put _ _ _ _ _ rfl, View.read_writes_cons_put _ _ _ _ _ rfl, View.writes_nil, harg9.read_unread]
    rfl
  isplitl [H8]
  · iexists _; isplitr; swap
    · iexact H8
    ipureintro
    delta run_B.sl.HS0_1 run_B.sl.HS0_2 run_B.sl.HS0_3 run_B.sl.HS1_1 run_B.sl.HS1_2 run_B.sl.HS1_3 run_B.sl.HS1_4 run_B.sl.HS2_1 run_B.sl.HS2_2 run_B.sl.HS2_3 run_B.sl.HS2_4 run_B.sl.r run_B.sl.r_1 run_B.sl.r_10 run_B.sl.r_11 run_B.sl.r_12 run_B.sl.r_2 run_B.sl.r_3 run_B.sl.r_4 run_B.sl.r_5 run_B.sl.r_6 run_B.sl.r_7 run_B.sl.r_8 run_B.sl.r_9 run_B.sl.v0 run_B.sl.v1 run_B.sl.v112 run_B.sl.v119 run_B.sl.v128 run_B.sl.v169 run_B.sl.v170 run_B.sl.v177 run_B.sl.v184 run_B.sl.v193 run_B.sl.v2 run_B.sl.v242 run_B.sl.v249 run_B.sl.v258 run_B.sl.v271 run_B.sl.v272 run_B.sl.v3 run_B.sl.v4 run_B.sl.v6 run_B.sl.v7
    refine (View.read_writes_full _ _ _ _ _).trans ?_
    simp only [ld_1x1, ld_1xH, ld_HxH, ld_HxHl, ld_256xH, ld_256xHl, ld_1x256, ld_1x128, ld_128xH, ld_rows, cov_1x1, cov_1xH, cov_HxH, cov_HxHl, cov_cat, Memref.IsWhole.read_unread, sub0_l, sub0_m, sub0_s, sub0_a, sub1_l, sub1_m, sub1_s, sub1_a, sub2_l, sub2_m, sub2_s, sub2_a, sub3_l, sub3_m, sub3_s, sub3_a]
    rfl
  isplitl [HS0]
  · iexists _; isplitr; swap
    · iexact HS0
    ipureintro
    delta run_B.sl.HS0_1 run_B.sl.HS0_2 run_B.sl.HS0_3 run_B.sl.HS1_1 run_B.sl.HS1_2 run_B.sl.HS1_3 run_B.sl.HS1_4 run_B.sl.HS2_1 run_B.sl.HS2_2 run_B.sl.HS2_3 run_B.sl.HS2_4 run_B.sl.r run_B.sl.r_1 run_B.sl.r_10 run_B.sl.r_11 run_B.sl.r_12 run_B.sl.r_2 run_B.sl.r_3 run_B.sl.r_4 run_B.sl.r_5 run_B.sl.r_6 run_B.sl.r_7 run_B.sl.r_8 run_B.sl.r_9 run_B.sl.v0 run_B.sl.v1 run_B.sl.v112 run_B.sl.v119 run_B.sl.v128 run_B.sl.v169 run_B.sl.v170 run_B.sl.v177 run_B.sl.v184 run_B.sl.v193 run_B.sl.v2 run_B.sl.v242 run_B.sl.v249 run_B.sl.v258 run_B.sl.v271 run_B.sl.v272 run_B.sl.v3 run_B.sl.v4 run_B.sl.v6 run_B.sl.v7
    refine (View.read_writes_full _ _ _ _ _).trans ?_
    simp only [ld_1x1, ld_1xH, ld_HxH, ld_HxHl, ld_256xH, ld_256xHl, ld_1x256, ld_1x128, ld_128xH, ld_rows, cov_1x1, cov_1xH, cov_HxH, cov_HxHl, cov_cat, Memref.IsWhole.read_unread, sub0_l, sub0_m, sub0_s, sub0_a, sub1_l, sub1_m, sub1_s, sub1_a, sub2_l, sub2_m, sub2_s, sub2_a, sub3_l, sub3_m, sub3_s, sub3_a]
    rfl
  isplitl [HS1]
  · iexists _; isplitr; swap
    · iexact HS1
    ipureintro
    delta run_B.sl.HS0_1 run_B.sl.HS0_2 run_B.sl.HS0_3 run_B.sl.HS1_1 run_B.sl.HS1_2 run_B.sl.HS1_3 run_B.sl.HS1_4 run_B.sl.HS2_1 run_B.sl.HS2_2 run_B.sl.HS2_3 run_B.sl.HS2_4 run_B.sl.r run_B.sl.r_1 run_B.sl.r_10 run_B.sl.r_11 run_B.sl.r_12 run_B.sl.r_2 run_B.sl.r_3 run_B.sl.r_4 run_B.sl.r_5 run_B.sl.r_6 run_B.sl.r_7 run_B.sl.r_8 run_B.sl.r_9 run_B.sl.v0 run_B.sl.v1 run_B.sl.v112 run_B.sl.v119 run_B.sl.v128 run_B.sl.v169 run_B.sl.v170 run_B.sl.v177 run_B.sl.v184 run_B.sl.v193 run_B.sl.v2 run_B.sl.v242 run_B.sl.v249 run_B.sl.v258 run_B.sl.v271 run_B.sl.v272 run_B.sl.v3 run_B.sl.v4 run_B.sl.v6 run_B.sl.v7
    refine (View.read_writes_full _ _ _ _ _).trans ?_
    simp only [ld_1x1, ld_1xH, ld_HxH, ld_HxHl, ld_256xH, ld_256xHl, ld_1x256, ld_1x128, ld_128xH, ld_rows, cov_1x1, cov_1xH, cov_HxH, cov_HxHl, cov_cat, Memref.IsWhole.read_unread, sub0_l, sub0_m, sub0_s, sub0_a, sub1_l, sub1_m, sub1_s, sub1_a, sub2_l, sub2_m, sub2_s, sub2_a, sub3_l, sub3_m, sub3_s, sub3_a]
    rfl
  isplitl [HS2]
  · iexists _; isplitr; swap
    · iexact HS2
    ipureintro
    delta run_B.sl.HS0_1 run_B.sl.HS0_2 run_B.sl.HS0_3 run_B.sl.HS1_1 run_B.sl.HS1_2 run_B.sl.HS1_3 run_B.sl.HS1_4 run_B.sl.HS2_1 run_B.sl.HS2_2 run_B.sl.HS2_3 run_B.sl.HS2_4 run_B.sl.r run_B.sl.r_1 run_B.sl.r_10 run_B.sl.r_11 run_B.sl.r_12 run_B.sl.r_2 run_B.sl.r_3 run_B.sl.r_4 run_B.sl.r_5 run_B.sl.r_6 run_B.sl.r_7 run_B.sl.r_8 run_B.sl.r_9 run_B.sl.v0 run_B.sl.v1 run_B.sl.v112 run_B.sl.v119 run_B.sl.v128 run_B.sl.v169 run_B.sl.v170 run_B.sl.v177 run_B.sl.v184 run_B.sl.v193 run_B.sl.v2 run_B.sl.v242 run_B.sl.v249 run_B.sl.v258 run_B.sl.v271 run_B.sl.v272 run_B.sl.v3 run_B.sl.v4 run_B.sl.v6 run_B.sl.v7
    refine (View.read_writes_full _ _ _ _ _).trans ?_
    simp only [ld_1x1, ld_1xH, ld_HxH, ld_HxHl, ld_256xH, ld_256xHl, ld_1x256, ld_1x128, ld_128xH, ld_rows, cov_1x1, cov_1xH, cov_HxH, cov_HxHl, cov_cat, Memref.IsWhole.read_unread, sub0_l, sub0_m, sub0_s, sub0_a, sub1_l, sub1_m, sub1_s, sub1_a, sub2_l, sub2_m, sub2_s, sub2_a, sub3_l, sub3_m, sub3_s, sub3_a]
    rfl
  isplitl [HS3]
  · iexists _; isplitr; swap
    · iexact HS3
    ipureintro
    exact harg14.read_unread _
  isplitl [HS4]
  · iexists _; isplitr; swap
    · iexact HS4
    ipureintro
    exact harg15.read_unread _
  isplitl [HS5]
  · iexists _; isplitr; swap
    · iexact HS5
    ipureintro
    exact harg16.read_unread _
  iexists _; isplitr; swap
  · iexact HS6
  ipureintro
  exact harg17.read_unread _

end Run

end Cert.KernelIdeal.Hand
end
-- ==== Proof.Stage1RunC.lean ====
module

public import proofs.«01_k».proof.Proof.Stage1Step
public import Idealize.ShloMosaic.Lib.Pipeline.FrameBody
public import Idealize.ShloMosaic.Lib.Ring
public import Idealize.ShloMosaic.Lib.VecWindow
public import Idealize.ShloMosaic.Lib.WholeRead
public import Idealize.ShloMosaic.Lib.Tactic
public import Idealize.ShloMosaic.Lib.WordCmp
public import Idealize.ShloMosaic.Lib.Pipeline.FrameValue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

section Run

variable (c : Dev nD) (i : grid0.Coords)
  (arg2 : Memref sig .tc .vmem S1x1x2048x1024 .f32) (harg2 : arg2.IsWhole) (arg3 : Memref sig .tc .vmem S1024x1024 .f32) (harg3 : arg3.IsWhole)
  (arg4 : Memref sig .tc .vmem S128x1024 .f32) (harg4 : arg4.IsWhole) (arg5 : Memref sig .tc .vmem S128x1024 .f32) (harg5 : arg5.IsWhole)
  (arg6 : Memref sig .tc .vmem S1x256 .f32) (harg6 : arg6.IsWhole) (arg7 : Memref sig .tc .vmem S1x128 .f32) (harg7 : arg7.IsWhole)
  (arg8 : Memref sig .tc .vmem S1x1 .f32) (harg8 : arg8.IsWhole) (arg9 : Memref sig .tc .vmem S1x1x4096 .f32) (harg9 : arg9.IsWhole)
  (arg10 : Memref sig .tc .vmem S1x1x1024 .f32) (harg10 : arg10.IsWhole) (arg11 : Memref sig .tc .vmem S1x1 .f32) (harg11 : arg11.IsWhole)
  (arg12 : Memref sig .tc .vmem S1x1 .f32) (harg12 : arg12.IsWhole) (arg13 : Memref sig .tc .vmem S1x1024 .f32) (harg13 : arg13.IsWhole)
  (arg14 : Memref sig .tc .vmem S1024x1024 .f32) (harg14 : arg14.IsWhole) (arg15 : Memref sig .tc .vmem S1024x1024 .bf16) (harg15 : arg15.IsWhole)
  (arg16 : Memref sig .tc .vmem S256x1024 .f32) (harg16 : arg16.IsWhole) (arg17 : Memref sig .tc .vmem S256x1024 .bf16) (harg17 : arg17.IsWhole)
  (x0 : Vec F S1x1x2048x1024 .f32) (x1 : Vec F S1024x1024 .f32) (x2 : Vec F S128x1024 .f32) (x3 : Vec F S128x1024 .f32)
  (x4 : Vec F S1x256 .f32) (x5 : Vec F S1x128 .f32) (x6 : Vec F S1x1 .f32)
  (xs0 : Vec F S1x1 .f32) (xs1 : Vec F S1x1 .f32) (xs2 : Vec F S1x1024 .f32) (xs3 : Vec F S1024x1024 .f32)
  (xs4 : Vec F S1024x1024 .bf16) (xs5 : Vec F S256x1024 .f32) (xs6 : Vec F S256x1024 .bf16)
  (y7 : Vec F S1x1x4096 .f32) (y8 : Vec F S1x1x1024 .f32)

set_option maxHeartbeats 1600000 in
/-- The body at the first tile of a later batch: the softmax state starts afresh, one tile is done. -/
theorem run_C (hc0 : ¬first i) (hc1 : reset i) (hc2 : ¬final i) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare y7
        ∗ owns (c : Thread nD τ) arg10 fullShare y8
        ∗ (∃ d, owns (c : Thread nD τ) arg11 fullShare d)
        ∗ (∃ d, owns (c : Thread nD τ) arg12 fullShare d)
        ∗ (∃ d, owns (c : Thread nD τ) arg13 fullShare d)
        ∗ owns (c : Thread nD τ) arg14 fullShare xs3
        ∗ owns (c : Thread nD τ) arg15 fullShare xs4
        ∗ owns (c : Thread nD τ) arg16 fullShare xs5
        ∗ owns (c : Thread nD τ) arg17 fullShare xs6
        ∗ (owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare (tileL ⟨xs3, xs4, xs5, xs6, x4, x5, x6⟩ i x0 y7)
          ∗ owns (c : Thread nD τ) arg10 fullShare y8
          ∗ owns (c : Thread nD τ) arg11 fullShare (tile ⟨xs3, xs4, xs5, xs6, x4, x5, x6⟩ x0 init).m
          ∗ owns (c : Thread nD τ) arg12 fullShare (tile ⟨xs3, xs4, xs5, xs6, x4, x5, x6⟩ x0 init).s
          ∗ owns (c : Thread nD τ) arg13 fullShare (tile ⟨xs3, xs4, xs5, xs6, x4, x5, x6⟩ x0 init).a
          ∗ owns (c : Thread nD τ) arg14 fullShare xs3
          ∗ owns (c : Thread nD τ) arg15 fullShare xs4
          ∗ owns (c : Thread nD τ) arg16 fullShare xs5
          ∗ owns (c : Thread nD τ) arg17 fullShare xs6 -∗ K ⟨⟩))
      ⊢ wp frame (wpE (defs₀ (F := F)) Variants.none c none) E (cc0__stage1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__stage1_body_eq_skeleton]; unfold cc0__stage1_body_skel
  simp only [k0_part2_eq_skeleton, k0_part3_eq_skeleton, k0_part4_eq_skeleton, k0_part5_eq_skeleton, k0_part6_eq_skeleton, k0_part7_eq_skeleton, k0_part8_eq_skeleton]
  unfold owns
  iintro ⟨⟨%fH0, %hH0, H0⟩, ⟨%fH1, %hH1, H1⟩, ⟨%fH2, %hH2, H2⟩, ⟨%fH3, %hH3, H3⟩, ⟨%fH4, %hH4, H4⟩, ⟨%fH5, %hH5, H5⟩, ⟨%fH6, %hH6, H6⟩, ⟨%fH7, %hH7, H7⟩, ⟨%fH8, %hH8, H8⟩, ⟨%dHS0, %fHS0, -, HS0⟩, ⟨%dHS1, %fHS1, -, HS1⟩, ⟨%dHS2, %fHS2, -, HS2⟩, ⟨%fHS3, %hHS3, HS3⟩, ⟨%fHS4, %hHS4, HS4⟩, ⟨%fHS5, %hHS5, HS5⟩, ⟨%fHS6, %hHS6, HS6⟩, Hk⟩
  obtain rfl := harg2.eq_unread hH0
  obtain rfl := harg3.eq_unread hH1
  obtain rfl := harg4.eq_unread hH2
  obtain rfl := harg5.eq_unread hH3
  obtain rfl := harg6.eq_unread hH4
  obtain rfl := harg7.eq_unread hH5
  obtain rfl := harg8.eq_unread hH6
  obtain rfl := harg9.eq_unread hH7
  obtain rfl := harg10.eq_unread hH8
  obtain rfl := harg14.eq_unread hHS3
  obtain rfl := harg15.eq_unread hHS4
  obtain rfl := harg16.eq_unread hHS5
  obtain rfl := harg17.eq_unread hHS6
  sl_exec (disch := first | sl_exact hc0 | sl_exact hc1 | sl_exact hc2)
  sl_step
  iapply Hk
  isplitl [H0]
  · iexists _; isplitr; swap
    · iexact H0
    ipureintro
    exact harg2.read_unread _
  isplitl [H1]
  · iexists _; isplitr; swap
    · iexact H1
    ipureintro
    exact harg3.read_unread _
  isplitl [H2]
  · iexists _; isplitr; swap
    · iexact H2
    ipureintro
    exact harg4.read_unread _
  isplitl [H3]
  · iexists _; isplitr; swap
    · iexact H3
    ipureintro
    exact harg5.read_unread _
  isplitl [H4]
  · iexists _; isplitr; swap
    · iexact H4
    ipureintro
    exact harg6.read_unread _
  isplitl [H5]
  · iexists _; isplitr; swap
    · iexact H5
    ipureintro
    exact harg7.read_unread _
  isplitl [H6]
  · iexists _; isplitr; swap
    · iexact H6
    ipureintro
    exact harg8.read_unread _
  isplitl [H7]
  · iexists _; isplitr; swap
    · iexact H7
    ipureintro
    delta run_C.sl.HS0_1 run_C.sl.HS0_2 run_C.sl.HS0_3 run_C.sl.HS0_4 run_C.sl.HS1_1 run_C.sl.HS1_2 run_C.sl.HS1_3 run_C.sl.HS1_4 run_C.sl.HS2_1 run_C.sl.HS2_2 run_C.sl.HS2_3 run_C.sl.HS2_4 run_C.sl.r run_C.sl.r_1 run_C.sl.r_10 run_C.sl.r_11 run_C.sl.r_2 run_C.sl.r_3 run_C.sl.r_4 run_C.sl.r_5 run_C.sl.r_6 run_C.sl.r_7 run_C.sl.r_8 run_C.sl.r_9 run_C.sl.v0 run_C.sl.v1 run_C.sl.v112 run_C.sl.v119 run_C.sl.v128 run_C.sl.v169 run_C.sl.v170 run_C.sl.v177 run_C.sl.v184 run_C.sl.v193 run_C.sl.v2 run_C.sl.v242 run_C.sl.v249 run_C.sl.v258 run_C.sl.v3 run_C.sl.v4 run_C.sl.v47 run_C.sl.v54 run_C.sl.v6 run_C.sl.v63 run_C.sl.v7
    simp only [ld_1x1, ld_1xH, ld_HxH, ld_HxHl, ld_256xH, ld_256xHl, ld_1x256, ld_1x128, ld_128xH, ld_rows, cov_1x1, cov_1xH, cov_HxH, cov_HxHl, cov_cat, Memref.IsWhole.read_unread, sub0_l, sub0_m, sub0_s, sub0_a, sub1_l, sub1_m, sub1_s, sub1_a, sub2_l, sub2_m, sub2_s, sub2_a, sub3_l, sub3_m, sub3_s, sub3_a]
    refine (View.read_writes_cons_put _ _ _ _ _ rfl).trans ?_
    rw [View.read_writes_cons_put _ _ _ _ _ rfl, View.read_writes_cons_put _ _ _ _ _ rfl, View.read_writes_cons_put _ _ _ _ _ rfl, View.writes_nil, harg9.read_unread]
    rfl
  isplitl [H8]
  · iexists _; isplitr; swap
    · iexact H8
    ipureintro
    exact harg10.read_unread _
  isplitl [HS0]
  · iexists _; isplitr; swap
    · iexact HS0
    ipureintro
    delta run_C.sl.HS0_1 run_C.sl.HS0_2 run_C.sl.HS0_3 run_C.sl.HS0_4 run_C.sl.HS1_1 run_C.sl.HS1_2 run_C.sl.HS1_3 run_C.sl.HS1_4 run_C.sl.HS2_1 run_C.sl.HS2_2 run_C.sl.HS2_3 run_C.sl.HS2_4 run_C.sl.r run_C.sl.r_1 run_C.sl.r_10 run_C.sl.r_11 run_C.sl.r_2 run_C.sl.r_3 run_C.sl.r_4 run_C.sl.r_5 run_C.sl.r_6 run_C.sl.r_7 run_C.sl.r_8 run_C.sl.r_9 run_C.sl.v0 run_C.sl.v1 run_C.sl.v112 run_C.sl.v119 run_C.sl.v128 run_C.sl.v169 run_C.sl.v170 run_C.sl.v177 run_C.sl.v184 run_C.sl.v193 run_C.sl.v2 run_C.sl.v242 run_C.sl.v249 run_C.sl.v258 run_C.sl.v3 run_C.sl.v4 run_C.sl.v47 run_C.sl.v54 run_C.sl.v6 run_C.sl.v63 run_C.sl.v7
    refine (View.read_writes_full _ _ _ _ _).trans ?_
    simp only [ld_1x1, ld_1xH, ld_HxH, ld_HxHl, ld_256xH, ld_256xHl, ld_1x256, ld_1x128, ld_128xH, ld_rows, cov_1x1, cov_1xH, cov_HxH, cov_HxHl, cov_cat, Memref.IsWhole.read_unread, sub0_l, sub0_m, sub0_s, sub0_a, sub1_l, sub1_m, sub1_s, sub1_a, sub2_l, sub2_m, sub2_s, sub2_a, sub3_l, sub3_m, sub3_s, sub3_a]
    rfl
  isplitl [HS1]
  · iexists _; isplitr; swap
    · iexact HS1
    ipureintro
    delta run_C.sl.HS0_1 run_C.sl.HS0_2 run_C.sl.HS0_3 run_C.sl.HS0_4 run_C.sl.HS1_1 run_C.sl.HS1_2 run_C.sl.HS1_3 run_C.sl.HS1_4 run_C.sl.HS2_1 run_C.sl.HS2_2 run_C.sl.HS2_3 run_C.sl.HS2_4 run_C.sl.r run_C.sl.r_1 run_C.sl.r_10 run_C.sl.r_11 run_C.sl.r_2 run_C.sl.r_3 run_C.sl.r_4 run_C.sl.r_5 run_C.sl.r_6 run_C.sl.r_7 run_C.sl.r_8 run_C.sl.r_9 run_C.sl.v0 run_C.sl.v1 run_C.sl.v112 run_C.sl.v119 run_C.sl.v128 run_C.sl.v169 run_C.sl.v170 run_C.sl.v177 run_C.sl.v184 run_C.sl.v193 run_C.sl.v2 run_C.sl.v242 run_C.sl.v249 run_C.sl.v258 run_C.sl.v3 run_C.sl.v4 run_C.sl.v47 run_C.sl.v54 run_C.sl.v6 run_C.sl.v63 run_C.sl.v7
    refine (View.read_writes_full _ _ _ _ _).trans ?_
    simp only [ld_1x1, ld_1xH, ld_HxH, ld_HxHl, ld_256xH, ld_256xHl, ld_1x256, ld_1x128, ld_128xH, ld_rows, cov_1x1, cov_1xH, cov_HxH, cov_HxHl, cov_cat, Memref.IsWhole.read_unread, sub0_l, sub0_m, sub0_s, sub0_a, sub1_l, sub1_m, sub1_s, sub1_a, sub2_l, sub2_m, sub2_s, sub2_a, sub3_l, sub3_m, sub3_s, sub3_a]
    rfl
  isplitl [HS2]
  · iexists _; isplitr; swap
    · iexact HS2
    ipureintro
    delta run_C.sl.HS0_1 run_C.sl.HS0_2 run_C.sl.HS0_3 run_C.sl.HS0_4 run_C.sl.HS1_1 run_C.sl.HS1_2 run_C.sl.HS1_3 run_C.sl.HS1_4 run_C.sl.HS2_1 run_C.sl.HS2_2 run_C.sl.HS2_3 run_C.sl.HS2_4 run_C.sl.r run_C.sl.r_1 run_C.sl.r_10 run_C.sl.r_11 run_C.sl.r_2 run_C.sl.r_3 run_C.sl.r_4 run_C.sl.r_5 run_C.sl.r_6 run_C.sl.r_7 run_C.sl.r_8 run_C.sl.r_9 run_C.sl.v0 run_C.sl.v1 run_C.sl.v112 run_C.sl.v119 run_C.sl.v128 run_C.sl.v169 run_C.sl.v170 run_C.sl.v177 run_C.sl.v184 run_C.sl.v193 run_C.sl.v2 run_C.sl.v242 run_C.sl.v249 run_C.sl.v258 run_C.sl.v3 run_C.sl.v4 run_C.sl.v47 run_C.sl.v54 run_C.sl.v6 run_C.sl.v63 run_C.sl.v7
    refine (View.read_writes_full _ _ _ _ _).trans ?_
    simp only [ld_1x1, ld_1xH, ld_HxH, ld_HxHl, ld_256xH, ld_256xHl, ld_1x256, ld_1x128, ld_128xH, ld_rows, cov_1x1, cov_1xH, cov_HxH, cov_HxHl, cov_cat, Memref.IsWhole.read_unread, sub0_l, sub0_m, sub0_s, sub0_a, sub1_l, sub1_m, sub1_s, sub1_a, sub2_l, sub2_m, sub2_s, sub2_a, sub3_l, sub3_m, sub3_s, sub3_a]
    rfl
  isplitl [HS3]
  · iexists _; isplitr; swap
    · iexact HS3
    ipureintro
    exact harg14.read_unread _
  isplitl [HS4]
  · iexists _; isplitr; swap
    · iexact HS4
    ipureintro
    exact harg15.read_unread _
  isplitl [HS5]
  · iexists _; isplitr; swap
    · iexact HS5
    ipureintro
    exact harg16.read_unread _
  iexists _; isplitr; swap
  · iexact HS6
  ipureintro
  exact harg17.read_unread _

end Run

end Cert.KernelIdeal.Hand
end
-- ==== Proof.Stage1Dat.lean ====
module

public import proofs.«01_k».proof.Proof.Stage1RunA
public import proofs.«01_k».proof.Proof.Stage1RunB
public import proofs.«01_k».proof.Proof.Stage1RunC
public import proofs.«01_k».proof.Proof.Gen.KernelIdeal.Regions

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR sig nD τ) ℕ

variable (V : Dev nD → Valuation τ sig (Elt F))

/-! ### The conditions of the body, over the points of the grid -/

theorem first_iff (t : Fin cfg0.N) : first (grid0.coords t) ↔ t.val % 8 = 0 := by
  have ht : t.val < 8 := Nat.lt_of_lt_of_eq t.isLt N_0
  have e0 : (grid0.coords t 0).val = t.val / 2 % 4 := Pipeline.Grid.coords_val t 0 (by decide) rfl
  have e1 : (grid0.coords t 1).val = t.val / 1 % 2 := Pipeline.Grid.coords_val t 1 (by decide) rfl
  simp only [first, e0, e1]
  word_cmp
theorem reset_iff (t : Fin cfg0.N) : reset (grid0.coords t) ↔ t.val % 2 = 0 := by
  have ht : t.val < 8 := Nat.lt_of_lt_of_eq t.isLt N_0
  have e1 : (grid0.coords t 1).val = t.val / 1 % 2 := Pipeline.Grid.coords_val t 1 (by decide) rfl
  simp only [reset, e1]
  word_cmp
theorem final_iff (t : Fin cfg0.N) : final (grid0.coords t) ↔ t.val % 2 = 1 := by
  have ht : t.val < 8 := Nat.lt_of_lt_of_eq t.isLt N_0
  have e1 : (grid0.coords t 1).val = t.val / 1 % 2 := Pipeline.Grid.coords_val t 1 (by decide) rfl
  simp only [final, k0_cond3, e1]
  word_cmp

/-! ### What the points compute -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))
/-- The shared inputs at point `t`: the weights as the first point split them. -/
def wtsAt (c : Dev nD) (t : Fin cfg0.N) : Wts F :=
  wts (iblk V c 1 t0_0) (iblk V c 2 t0_0) (iblk V c 3 t0_0) (iblk V c 4 t) (iblk V c 5 t) (iblk V c 6 t)
/-- The softmax state after point `n`. -/
def stAt (c : Dev nD) : (n : ℕ) → n < cfg0.N → St F
  | 0, h => tile (wtsAt V c ⟨0, h⟩) (iblk V c 0 ⟨0, h⟩) init
  | n + 1, h => tile (wtsAt V c ⟨n + 1, h⟩) (iblk V c 0 ⟨n + 1, h⟩) (if (n + 1) % 2 = 0 then init else stAt c n (Nat.lt_of_succ_lt h))
theorem stAt_even (c : Dev nD) (t : Fin cfg0.N) (h : t.val % 2 = 0) : stAt V c t.val t.isLt = tile (wtsAt V c t) (iblk V c 0 t) init := by
  obtain ⟨n, hn⟩ := t
  cases n with
  | zero => rfl
  | succ n => exact (show stAt V c (n + 1) hn = tile (wtsAt V c ⟨n + 1, hn⟩) (iblk V c 0 ⟨n + 1, hn⟩) (if (n + 1) % 2 = 0 then init else stAt V c n (Nat.lt_of_succ_lt hn)) from rfl).trans (by rw [if_pos h])
theorem stAt_odd (c : Dev nD) (t : Fin cfg0.N) (h : ¬t.val % 2 = 0) : stAt V c t.val t.isLt
    = tile (wtsAt V c t) (iblk V c 0 t) (stAt V c (t.val - 1) (Nat.lt_of_le_of_lt (Nat.sub_le _ _) t.isLt)) := by
  obtain ⟨n, hn⟩ := t
  cases n with
  | zero => exact absurd rfl h
  | succ n => exact (show stAt V c (n + 1) hn = tile (wtsAt V c ⟨n + 1, hn⟩) (iblk V c 0 ⟨n + 1, hn⟩) (if (n + 1) % 2 = 0 then init else stAt V c n (Nat.lt_of_succ_lt hn)) from rfl).trans (by rw [if_neg h]; rfl)

/-! ### The scratch buffers between points -/

abbrev scM0_0 : Memref sig .tc .vmem S1x1 .f32 := Memref.whole cc0_scratch0
abbrev scM0_1 : Memref sig .tc .vmem S1x1 .f32 := Memref.whole cc0_scratch1
abbrev scM0_2 : Memref sig .tc .vmem S1x1024 .f32 := Memref.whole cc0_scratch2
abbrev scM0_3 : Memref sig .tc .vmem S1024x1024 .f32 := Memref.whole cc0_scratch3
abbrev scM0_4 : Memref sig .tc .vmem S1024x1024 .bf16 := Memref.whole cc0_scratch4
abbrev scM0_5 : Memref sig .tc .vmem S256x1024 .f32 := Memref.whole cc0_scratch5
abbrev scM0_6 : Memref sig .tc .vmem S256x1024 .bf16 := Memref.whole cc0_scratch6

/-- The scoped buffers the stage neither stages windows in nor computes in. -/
abbrev but0 (c : Dev nD) : sProp 𝕄 :=
  Pipeline.scopedRestBut (Ix := Unit) (Name := ℕ) (U := UR sig nD τ) (Lvl := ℕ) (Val := Elt F) spec0 c [cc0_scratch0, cc0_scratch1, cc0_scratch2, cc0_scratch3, cc0_scratch4, cc0_scratch5, cc0_scratch6]
/-- The invariant: before the first point the scratch buffers hold anything; after point `n` the first three hold the
    softmax state and the other four the split weights. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare (stAt V c n hn).m
      ∗ owns (c : Thread nD τ) scM0_1 fullShare (stAt V c n hn).s
      ∗ owns (c : Thread nD τ) scM0_2 fullShare (stAt V c n hn).a
      ∗ owns (c : Thread nD τ) scM0_3 fullShare (wtsAt V c t0_0).w1h
      ∗ owns (c : Thread nD τ) scM0_4 fullShare (wtsAt V c t0_0).w1l
      ∗ owns (c : Thread nD τ) scM0_5 fullShare (wtsAt V c t0_0).vuh
      ∗ owns (c : Thread nD τ) scM0_6 fullShare (wtsAt V c t0_0).vul
      ∗ but0 c)
theorem PhiS_zero (c : Dev nD) (n : ℕ) (hn : n ≤ cfg0.N) (h : n = 0) :
    PhiS V c n hn = Pipeline.scopedRest (Ix := Unit) (Name := ℕ) (U := UR sig nD τ) (Lvl := ℕ) (Val := Elt F) spec0 c := by
  subst h; rfl
theorem PhiS_succ (c : Dev nD) (n : ℕ) (hn : n + 1 ≤ cfg0.N) :
    PhiS V c (n + 1) hn = iprop(owns (c : Thread nD τ) scM0_0 fullShare (stAt V c n hn).m
      ∗ owns (c : Thread nD τ) scM0_1 fullShare (stAt V c n hn).s
      ∗ owns (c : Thread nD τ) scM0_2 fullShare (stAt V c n hn).a
      ∗ owns (c : Thread nD τ) scM0_3 fullShare (wtsAt V c t0_0).w1h
      ∗ owns (c : Thread nD τ) scM0_4 fullShare (wtsAt V c t0_0).w1l
      ∗ owns (c : Thread nD τ) scM0_5 fullShare (wtsAt V c t0_0).vuh
      ∗ owns (c : Thread nD τ) scM0_6 fullShare (wtsAt V c t0_0).vul
      ∗ but0 c) := rfl
theorem PhiS_pos (c : Dev nD) (n : ℕ) (hn : n ≤ cfg0.N) (h : n ≠ 0) :
    PhiS V c n hn = iprop(owns (c : Thread nD τ) scM0_0 fullShare (stAt V c (n - 1) (Nat.lt_of_lt_of_le (Nat.sub_lt (Nat.pos_of_ne_zero h) Nat.one_pos) hn)).m
      ∗ owns (c : Thread nD τ) scM0_1 fullShare (stAt V c (n - 1) (Nat.lt_of_lt_of_le (Nat.sub_lt (Nat.pos_of_ne_zero h) Nat.one_pos) hn)).s
      ∗ owns (c : Thread nD τ) scM0_2 fullShare (stAt V c (n - 1) (Nat.lt_of_lt_of_le (Nat.sub_lt (Nat.pos_of_ne_zero h) Nat.one_pos) hn)).a
      ∗ owns (c : Thread nD τ) scM0_3 fullShare (wtsAt V c t0_0).w1h
      ∗ owns (c : Thread nD τ) scM0_4 fullShare (wtsAt V c t0_0).w1l
      ∗ owns (c : Thread nD τ) scM0_5 fullShare (wtsAt V c t0_0).vuh
      ∗ owns (c : Thread nD τ) scM0_6 fullShare (wtsAt V c t0_0).vul
      ∗ but0 c) := by
  cases n with
  | zero => exact absurd rfl h
  | succ n => rfl
/-- The scoped buffers at the region's entry: the seven scratch buffers at anything, and the others. -/
theorem scoped_eq (c : Dev nD) :
    (Pipeline.scopedRest (Ix := Unit) (Name := ℕ) (U := UR sig nD τ) (Lvl := ℕ) (Val := Elt F) spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d))
          ∗ but0 c) := by
  rw [scopedRest0_split c]
  simp only [scM0_0, scM0_1, scM0_2, scM0_3, scM0_4, scM0_5, scM0_6, owns_whole]
  rfl

/-! ### The proof data -/

/-- What each point leaves, for the inputs; the two outputs are constrained below. -/
def dat0 (c : Dev nD) : Dat τ (Elt F) Unit ℕ (UR sig nD τ) ℕ cfg0 c where
  A w := V c (Proc.devRef .tc (Pipeline.arrRef spec0 w))
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, h⟩ => Pipeline.Dat.unnamed (cfg := cfg0) ⟨7, h⟩ t
    | ⟨8, h⟩ => Pipeline.Dat.unnamed (cfg := cfg0) ⟨8, h⟩ t
  Φ t := PhiS V c t.val (Nat.le_of_lt_succ t.isLt)
  q _ := fullShare
  owed _ := 0
/-- What a point leaves in the outputs: the row of scores has the tile's four pieces put in; at a batch's last point the
    other output holds the quotient. -/
def ovr0 (c : Dev nD) : (w : Fin cfg0.W) → Option (Fin cfg0.N → ((cfg0.win w).block.Idx → Elt F (cfg0.win w).elt) → ((cfg0.win w).block.Idx → Elt F (cfg0.win w).elt) → Prop)
  | ⟨7, _⟩ => some fun t Y X => X = tileL (wtsAt V c t) (grid0.coords t) (iblk V c 0 t) Y
  | ⟨8, _⟩ => some fun t _ X => t.val % 2 = 1 → X = k0_pay7 (stAt V c t.val t.isLt).a (stAt V c t.val t.isLt).s
  | _ => none
/-- The stage's proof data. -/
def rdat0 (c : Dev nD) : RDat τ (Elt F) Unit ℕ (UR sig nD τ) ℕ cfg0 c := (dat0 V c).toR.override (ovr0 V c)

theorem A0_eq (c : Dev nD) (w : Fin cfg0.W) : (dat0 V c).A w = V c (Proc.devRef .tc (Pipeline.arrRef spec0 w)) := by dsimp only [dat0]
theorem finds0_0 (c : Dev nD) (t : Fin cfg0.N) (X) (h : (rdat0 V c).Finds 0 t X) : X = iblk V c 0 t := by
  obtain ⟨d, rfl⟩ := (dat0 V c).toR_finds 0 t X (((dat0 V c).toR.override_finds (ovr := ovr0 V c) rfl t X).mp h)
  exact ((dat0 V c).before_in_eq_fetched 0 rfl (fun _ => rfl) (fun _ _ _ => rfl) (fun t => by rw [show (dat0 V c).after 0 t = iblk V c 0 t from rfl]; unfold Dat.blockOf iblk; rw [A0_eq]) t d).trans
    (by unfold Dat.fetched Dat.blockOf iblk; rw [A0_eq]; rfl)
theorem leaves0_0 (c : Dev nD) (t : Fin cfg0.N) (Y) : (rdat0 V c).after 0 t Y (iblk V c 0 t) :=
  (show (dat0 V c).Leaves 0 t (iblk V c 0 t) from rfl)
theorem finds0_1 (c : Dev nD) (t : Fin cfg0.N) (X) (h : (rdat0 V c).Finds 1 t X) : X = iblk V c 1 t := by
  obtain ⟨d, rfl⟩ := (dat0 V c).toR_finds 1 t X (((dat0 V c).toR.override_finds (ovr := ovr0 V c) rfl t X).mp h)
  exact ((dat0 V c).before_in_eq_fetched 1 rfl (fun _ => rfl) (fun _ _ _ => rfl) (fun t => by rw [show (dat0 V c).after 1 t = iblk V c 1 t from rfl]; unfold Dat.blockOf iblk; rw [A0_eq]) t d).trans
    (by unfold Dat.fetched Dat.blockOf iblk; rw [A0_eq]; rfl)
theorem leaves0_1 (c : Dev nD) (t : Fin cfg0.N) (Y) : (rdat0 V c).after 1 t Y (iblk V c 1 t) :=
  (show (dat0 V c).Leaves 1 t (iblk V c 1 t) from rfl)
theorem finds0_2 (c : Dev nD) (t : Fin cfg0.N) (X) (h : (rdat0 V c).Finds 2 t X) : X = iblk V c 2 t := by
  obtain ⟨d, rfl⟩ := (dat0 V c).toR_finds 2 t X (((dat0 V c).toR.override_finds (ovr := ovr0 V c) rfl t X).mp h)
  exact ((dat0 V c).before_in_eq_fetched 2 rfl (fun _ => rfl) (fun _ _ _ => rfl) (fun t => by rw [show (dat0 V c).after 2 t = iblk V c 2 t from rfl]; unfold Dat.blockOf iblk; rw [A0_eq]) t d).trans
    (by unfold Dat.fetched Dat.blockOf iblk; rw [A0_eq]; rfl)
theorem leaves0_2 (c : Dev nD) (t : Fin cfg0.N) (Y) : (rdat0 V c).after 2 t Y (iblk V c 2 t) :=
  (show (dat0 V c).Leaves 2 t (iblk V c 2 t) from rfl)
theorem finds0_3 (c : Dev nD) (t : Fin cfg0.N) (X) (h : (rdat0 V c).Finds 3 t X) : X = iblk V c 3 t := by
  obtain ⟨d, rfl⟩ := (dat0 V c).toR_finds 3 t X (((dat0 V c).toR.override_finds (ovr := ovr0 V c) rfl t X).mp h)
  exact ((dat0 V c).before_in_eq_fetched 3 rfl (fun _ => rfl) (fun _ _ _ => rfl) (fun t => by rw [show (dat0 V c).after 3 t = iblk V c 3 t from rfl]; unfold Dat.blockOf iblk; rw [A0_eq]) t d).trans
    (by unfold Dat.fetched Dat.blockOf iblk; rw [A0_eq]; rfl)
theorem leaves0_3 (c : Dev nD) (t : Fin cfg0.N) (Y) : (rdat0 V c).after 3 t Y (iblk V c 3 t) :=
  (show (dat0 V c).Leaves 3 t (iblk V c 3 t) from rfl)
theorem finds0_4 (c : Dev nD) (t : Fin cfg0.N) (X) (h : (rdat0 V c).Finds 4 t X) : X = iblk V c 4 t := by
  obtain ⟨d, rfl⟩ := (dat0 V c).toR_finds 4 t X (((dat0 V c).toR.override_finds (ovr := ovr0 V c) rfl t X).mp h)
  exact ((dat0 V c).before_in_eq_fetched 4 rfl (fun _ => rfl) (fun _ _ _ => rfl) (fun t => by rw [show (dat0 V c).after 4 t = iblk V c 4 t from rfl]; unfold Dat.blockOf iblk; rw [A0_eq]) t d).trans
    (by unfold Dat.fetched Dat.blockOf iblk; rw [A0_eq]; rfl)
theorem leaves0_4 (c : Dev nD) (t : Fin cfg0.N) (Y) : (rdat0 V c).after 4 t Y (iblk V c 4 t) :=
  (show (dat0 V c).Leaves 4 t (iblk V c 4 t) from rfl)
theorem finds0_5 (c : Dev nD) (t : Fin cfg0.N) (X) (h : (rdat0 V c).Finds 5 t X) : X = iblk V c 5 t := by
  obtain ⟨d, rfl⟩ := (dat0 V c).toR_finds 5 t X (((dat0 V c).toR.override_finds (ovr := ovr0 V c) rfl t X).mp h)
  exact ((dat0 V c).before_in_eq_fetched 5 rfl (fun _ => rfl) (fun _ _ _ => rfl) (fun t => by rw [show (dat0 V c).after 5 t = iblk V c 5 t from rfl]; unfold Dat.blockOf iblk; rw [A0_eq]) t d).trans
    (by unfold Dat.fetched Dat.blockOf iblk; rw [A0_eq]; rfl)
theorem leaves0_5 (c : Dev nD) (t : Fin cfg0.N) (Y) : (rdat0 V c).after 5 t Y (iblk V c 5 t) :=
  (show (dat0 V c).Leaves 5 t (iblk V c 5 t) from rfl)
theorem finds0_6 (c : Dev nD) (t : Fin cfg0.N) (X) (h : (rdat0 V c).Finds 6 t X) : X = iblk V c 6 t := by
  obtain ⟨d, rfl⟩ := (dat0 V c).toR_finds 6 t X (((dat0 V c).toR.override_finds (ovr := ovr0 V c) rfl t X).mp h)
  exact ((dat0 V c).before_in_eq_fetched 6 rfl (fun _ => rfl) (fun _ _ _ => rfl) (fun t => by rw [show (dat0 V c).after 6 t = iblk V c 6 t from rfl]; unfold Dat.blockOf iblk; rw [A0_eq]) t d).trans
    (by unfold Dat.fetched Dat.blockOf iblk; rw [A0_eq]; rfl)
theorem leaves0_6 (c : Dev nD) (t : Fin cfg0.N) (Y) : (rdat0 V c).after 6 t Y (iblk V c 6 t) :=
  (show (dat0 V c).Leaves 6 t (iblk V c 6 t) from rfl)
theorem leaves0_7 (c : Dev nD) (t : Fin cfg0.N) (Y) : (rdat0 V c).after 7 t Y (tileL (wtsAt V c t) (grid0.coords t) (iblk V c 0 t) Y) := rfl
theorem leaves0_8 (c : Dev nD) (t : Fin cfg0.N) (Y X) (h : t.val % 2 = 1 → X = k0_pay7 (stAt V c t.val t.isLt).a (stAt V c t.val t.isLt).s) :
    (rdat0 V c).after 8 t Y X := h

theorem defs₀_row0 (t : Fin cfg0.N) : (defs₀ (F := F)) .tc cfg0.body (cfg0.bodyArgs t (cfg0.slots t)) = bodyAt0 t := by
  unfold defs₀; rw [Defs.onTc_tc]

set_option maxHeartbeats 4000000 in
/-- The body at every point. -/
theorem body0 (c : Dev nD) : (rdat0 V c).BodyObligation (defs₀ (F := F)) Variants.none () Set.univ := fun t Y hY => by
  rw [bigSep_W0, bigSep_W0, defs₀_row0]
  have e0 := finds0_0 V c t _ (hY 0)
  have e1 := finds0_1 V c t _ (hY 1)
  have e2 := finds0_2 V c t _ (hY 2)
  have e3 := finds0_3 V c t _ (hY 3)
  have e4 := finds0_4 V c t _ (hY 4)
  have e5 := finds0_5 V c t _ (hY 5)
  have e6 := finds0_6 V c t _ (hY 6)
  rw [e0, e1, e2, e3, e4, e5, e6]
  rw [show (rdat0 V c).owesAt () t.succ = (rdat0 V c).owesAt () t.castSucc from rfl]
  rw [show (rdat0 V c).Φ t.succ = PhiS V c (t.val + 1) t.isLt from rfl, PhiS_succ,
    show (rdat0 V c).Φ t.castSucc = PhiS V c t.val (Nat.le_of_lt t.isLt) from rfl]
  have hN : t.val < 8 := lt_of_lt_of_eq t.isLt N_0
  unfold bodyAt0
  generalize Y 7 = y7
  generalize Y 8 = y8
  by_cases hz : t.val = 0
  · obtain rfl : t = t0_0 := Fin.ext hz
    rw [PhiS_zero V c _ _ hz, scoped_eq, stAt_even V c t0_0 rfl]
    iintro ⟨⟨⟨HS0, HS1, HS2, HS3, HS4, HS5, HS6⟩, HR⟩, Ho, H0, H1, H2, H3, H4, H5, H6, H7, H8⟩
    iapply (run_A c (grid0.coords t0_0) _ _ _ _ _ _ _ _ _ _ _ _ _ _ _ _ _ _ _ _ _ _ _ _ _ _ _ _ _ _ _ _ (iblk V c 0 t0_0) (iblk V c 1 t0_0) (iblk V c 2 t0_0) (iblk V c 3 t0_0) (iblk V c 4 t0_0) (iblk V c 5 t0_0) (iblk V c 6 t0_0) y7 y8 ((first_iff t0_0).mpr rfl) ((reset_iff t0_0).mpr rfl) (fun h => absurd ((final_iff t0_0).mp h) (by decide)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, H7, H8, HS0, HS1, HS2, HS3, HS4, HS5, HS6⟩
    isplitl [HS0 HS1 HS2 HS3 HS4 HS5 HS6 HR]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HR
    isplitl [Ho]; · iexact Ho
    isplitl [H0]
    · iexists _
      isplitr; swap; · iexact H0
      ipureintro
      exact leaves0_0 V c t0_0 _
    isplitl [H1]
    · iexists _
      isplitr; swap; · iexact H1
      ipureintro
      exact leaves0_1 V c t0_0 _
    isplitl [H2]
    · iexists _
      isplitr; swap; · iexact H2
      ipureintro
      exact leaves0_2 V c t0_0 _
    isplitl [H3]
    · iexists _
      isplitr; swap; · iexact H3
      ipureintro
      exact leaves0_3 V c t0_0 _
    isplitl [H4]
    · iexists _
      isplitr; swap; · iexact H4
      ipureintro
      exact leaves0_4 V c t0_0 _
    isplitl [H5]
    · iexists _
      isplitr; swap; · iexact H5
      ipureintro
      exact leaves0_5 V c t0_0 _
    isplitl [H6]
    · iexists _
      isplitr; swap; · iexact H6
      ipureintro
      exact leaves0_6 V c t0_0 _
    isplitl [H7]
    · iexists _
      isplitr; swap; · iexact H7
      ipureintro
      exact leaves0_7 V c t0_0 _
    iexists _
    isplitr; swap; · iexact H8
    ipureintro
    exact leaves0_8 V c t0_0 _ _ fun h => absurd h (by decide)
  · rw [PhiS_pos V c _ _ hz]
    by_cases h1 : t.val % 2 = 0
    · rw [stAt_even V c t h1]
      iintro ⟨⟨HS0, HS1, HS2, HS3, HS4, HS5, HS6, HR⟩, Ho, H0, H1, H2, H3, H4, H5, H6, H7, H8⟩
      iapply (run_C c (grid0.coords t) _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (wtsAt V c t0_0).w1h (wtsAt V c t0_0).w1l (wtsAt V c t0_0).vuh (wtsAt V c t0_0).vul y7 y8 (fun h => absurd ((first_iff t).mp h) (by omega)) ((reset_iff t).mpr h1) (fun h => absurd ((final_iff t).mp h) (by omega)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexists _; iexact HS0
      isplitl [HS1]; · iexists _; iexact HS1
      isplitl [HS2]; · iexists _; iexact HS2
      isplitl [HS3]; · iexact HS3
      isplitl [HS4]; · iexact HS4
      isplitl [HS5]; · iexact HS5
      isplitl [HS6]; · iexact HS6
      iintro ⟨H0, H1, H2, H3, H4, H5, H6, H7, H8, HS0, HS1, HS2, HS3, HS4, HS5, HS6⟩
      isplitl [HS0 HS1 HS2 HS3 HS4 HS5 HS6 HR]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iexact HR
      isplitl [Ho]; · iexact Ho
      isplitl [H0]
      · iexists _
        isplitr; swap; · iexact H0
        ipureintro
        exact leaves0_0 V c t _
      isplitl [H1]
      · iexists _
        isplitr; swap; · iexact H1
        ipureintro
        exact leaves0_1 V c t _
      isplitl [H2]
      · iexists _
        isplitr; swap; · iexact H2
        ipureintro
        exact leaves0_2 V c t _
      isplitl [H3]
      · iexists _
        isplitr; swap; · iexact H3
        ipureintro
        exact leaves0_3 V c t _
      isplitl [H4]
      · iexists _
        isplitr; swap; · iexact H4
        ipureintro
        exact leaves0_4 V c t _
      isplitl [H5]
      · iexists _
        isplitr; swap; · iexact H5
        ipureintro
        exact leaves0_5 V c t _
      isplitl [H6]
      · iexists _
        isplitr; swap; · iexact H6
        ipureintro
        exact leaves0_6 V c t _
      isplitl [H7]
      · iexists _
        isplitr; swap; · iexact H7
        ipureintro
        exact leaves0_7 V c t _
      iexists _
      isplitr; swap; · iexact H8
      ipureintro
      exact leaves0_8 V c t _ _ fun h => absurd h (by omega)
    · rw [stAt_odd V c t h1]
      iintro ⟨⟨HS0, HS1, HS2, HS3, HS4, HS5, HS6, HR⟩, Ho, H0, H1, H2, H3, H4, H5, H6, H7, H8⟩
      iapply (run_B c (grid0.coords t) _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (stAt V c (t.val - 1) (Nat.lt_of_le_of_lt (Nat.sub_le _ _) t.isLt)).m (stAt V c (t.val - 1) (Nat.lt_of_le_of_lt (Nat.sub_le _ _) t.isLt)).s (stAt V c (t.val - 1) (Nat.lt_of_le_of_lt (Nat.sub_le _ _) t.isLt)).a (wtsAt V c t0_0).w1h (wtsAt V c t0_0).w1l (wtsAt V c t0_0).vuh (wtsAt V c t0_0).vul y7 (fun h => absurd ((first_iff t).mp h) (by omega)) (fun h => h1 ((reset_iff t).mp h)) ((final_iff t).mpr (by omega)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iintro ⟨H0, H1, H2, H3, H4, H5, H6, H7, H8, HS0, HS1, HS2, HS3, HS4, HS5, HS6⟩
      isplitl [HS0 HS1 HS2 HS3 HS4 HS5 HS6 HR]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iexact HR
      isplitl [Ho]; · iexact Ho
      isplitl [H0]
      · iexists _
        isplitr; swap; · iexact H0
        ipureintro
        exact leaves0_0 V c t _
      isplitl [H1]
      · iexists _
        isplitr; swap; · iexact H1
        ipureintro
        exact leaves0_1 V c t _
      isplitl [H2]
      · iexists _
        isplitr; swap; · iexact H2
        ipureintro
        exact leaves0_2 V c t _
      isplitl [H3]
      · iexists _
        isplitr; swap; · iexact H3
        ipureintro
        exact leaves0_3 V c t _
      isplitl [H4]
      · iexists _
        isplitr; swap; · iexact H4
        ipureintro
        exact leaves0_4 V c t _
      isplitl [H5]
      · iexists _
        isplitr; swap; · iexact H5
        ipureintro
        exact leaves0_5 V c t _
      isplitl [H6]
      · iexists _
        isplitr; swap; · iexact H6
        ipureintro
        exact leaves0_6 V c t _
      isplitl [H7]
      · iexists _
        isplitr; swap; · iexact H7
        ipureintro
        exact leaves0_7 V c t _
      iexists _
      isplitr; swap; · iexact H8
      ipureintro
      exact leaves0_8 V c t _ _ (fun _ => by rw [stAt_odd V c t h1]; rfl)

/-- What the region's entry hands the stage is the invariant before the first point. -/
theorem hin0 (c : Dev nD) : Pipeline.scopedRest (Ix := Unit) (Name := ℕ) (U := UR sig nD τ) (Lvl := ℕ) (Val := Elt F) spec0 c ⊢ (rdat0 V c).Φ 0 := .rfl
/-- The invariant after the last point gives the scoped buffers back. -/
theorem hout0 (c : Dev nD) : (rdat0 V c).Φ (Fin.last cfg0.N) ⊢ Pipeline.scopedRest (Ix := Unit) (Name := ℕ) (U := UR sig nD τ) (Lvl := ℕ) (Val := Elt F) spec0 c := by
  rw [show (rdat0 V c).Φ (Fin.last cfg0.N) = PhiS V c cfg0.N (Nat.le_refl _) from rfl,
    PhiS_pos V c _ _ (by have : cfg0.N = 8 := N_0; omega), scoped_eq]
  iintro ⟨HS0, HS1, HS2, HS3, HS4, HS5, HS6, HR⟩
  isplitr [HR]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    isplitl [HS5]
    · iexists _; iexact HS5
    iexists _; iexact HS6
  iexact HR

end Cert.KernelIdeal.Hand
-- ==== Proof.Stage1Arr.lean ====
module

public import proofs.«01_k».proof.Proof.Stage1Dat
public import Idealize.ShloMosaic.Lib.Pipeline.ValueKit
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.ShloMosaic.Pipeline (Dat RDat Cfg Window)

variable {F : FTy → Type} [FloatOps F]

local notation "𝕄" => MT nD τ sig Unit (Elt F) ℕ (UR sig nD τ) ℕ

variable (V : Dev nD → Valuation τ sig (Elt F))

/-- Index `k` of a subtile's row of logits. -/
def ix512 (k : Fin 512) : S1x1x512.Idx := fun a => match a with
  | ⟨0, _⟩ => ⟨0, Nat.one_pos⟩
  | ⟨1, _⟩ => ⟨0, Nat.one_pos⟩
  | ⟨2, _⟩ => k
/-- A put of 512 entries into a row of 4096, read at an index. -/
theorem put_row (y : Vec F S1x1x4096 .f32) (off : Fin 3 → ℕ) (o : ℕ) (ho : off = ![0, 0, o]) (v : Vec F S1x1x512 .f32) (q : S1x1x4096.Idx) :
    VecWindow.put (s := S1x1x4096) y off S1x1x512.size v q
      = if h : o ≤ (q 2).val ∧ (q 2).val < o + 512 then v (ix512 ⟨(q 2).val - o, by omega⟩) else y q := by
  subst ho
  unfold VecWindow.put
  by_cases h : o ≤ (q 2).val ∧ (q 2).val < o + 512
  · rw [dif_pos h, dif_pos]
    · refine congrArg v (funext fun a => ?_)
      have h0 := (q 0).isLt; have h1 := (q 1).isLt
      fin_cases a
      · exact Fin.ext (Nat.lt_one_iff.mp (Rect.unitLocal _ _ 0).isLt)
      · exact Fin.ext (Nat.lt_one_iff.mp (Rect.unitLocal _ _ 1).isLt)
      · rfl
    · intro a
      have h0 := (q 0).isLt; have h1 := (q 1).isLt
      fin_cases a
      · exact ⟨Nat.zero_le _, by simpa [S1x1x4096, S1x1x512] using h0⟩
      · exact ⟨Nat.zero_le _, by simpa [S1x1x4096, S1x1x512] using h1⟩
      · exact h
  · rw [dif_neg h, dif_neg]
    exact fun hh => h (hh 2)

/-- Logit `q` of a tile. -/
def lgAt (W : Wts F) (x0 : Vec F S1x1x2048x1024 .f32) (q : Fin 2048) : F .f32 :=
  lg (scW W (rows x0 (512 * (q.val / 512)) (by omega))) (ix512 ⟨q.val % 512, Nat.mod_lt _ (by decide)⟩)
theorem lgAt_of (W : Wts F) (x0 : Vec F S1x1x2048x1024 .f32) (q : Fin 2048) (o : ℕ) (ho : o + 512 ≤ 2048) (k : Fin 512)
    (h1 : 512 * (q.val / 512) = o) (h2 : q.val % 512 = k.val) :
    lg (scW W (rows x0 o ho)) (ix512 k) = lgAt W x0 q := by
  subst h1
  obtain rfl : k = ⟨q.val % 512, Nat.mod_lt _ (by decide)⟩ := Fin.ext h2.symm
  rfl
/-- What a tile leaves in the row of logits: its own 2048 of them, and the others unchanged. -/
theorem tileL_apply (W : Wts F) (i : grid0.Coords) (x0 : Vec F S1x1x2048x1024 .f32) (y : Vec F S1x1x4096 .f32) (q : S1x1x4096.Idx) :
    tileL W i x0 y q = if (q 2).val / 2048 = (i 1).val then lgAt W x0 ⟨(q 2).val % 2048, Nat.mod_lt _ (by decide)⟩ else y q := by
  have hq : (q 2).val < 4096 := (q 2).isLt
  have hi : (i 1).val < 2 := (i 1).isLt
  unfold tileL
  rw [put_row _ (k0_off1 i 1536#32) _ (k0_off1_eq i 3), put_row _ (k0_off1 i 1024#32) _ (k0_off1_eq i 2),
    put_row _ (k0_off1 i 512#32) _ (k0_off1_eq i 1), put_row _ (k0_off1 i 0#32) _ (k0_off1_eq i 0)]
  simp only [show ((3 : Fin 4).val) = 3 from rfl, show ((2 : Fin 4).val) = 2 from rfl, show ((1 : Fin 4).val) = 1 from rfl, show ((0 : Fin 4).val) = 0 from rfl]
  by_cases hr : (q 2).val / 2048 = (i 1).val
  · rw [if_pos hr]
    by_cases h3 : 2048 * (i 1).val + 512 * 3 ≤ (q 2).val ∧ (q 2).val < 2048 * (i 1).val + 512 * 3 + 512
    · rw [dif_pos h3]; exact lgAt_of W x0 _ _ _ _ (by simp only; omega) (by simp only; omega)
    rw [dif_neg h3]
    by_cases h2 : 2048 * (i 1).val + 512 * 2 ≤ (q 2).val ∧ (q 2).val < 2048 * (i 1).val + 512 * 2 + 512
    · rw [dif_pos h2]; exact lgAt_of W x0 _ _ _ _ (by simp only; omega) (by simp only; omega)
    rw [dif_neg h2]
    by_cases h1 : 2048 * (i 1).val + 512 * 1 ≤ (q 2).val ∧ (q 2).val < 2048 * (i 1).val + 512 * 1 + 512
    · rw [dif_pos h1]; exact lgAt_of W x0 _ _ _ _ (by simp only; omega) (by simp only; omega)
    rw [dif_neg h1]
    have h0 : 2048 * (i 1).val + 512 * 0 ≤ (q 2).val ∧ (q 2).val < 2048 * (i 1).val + 512 * 0 + 512 := by omega
    rw [dif_pos h0]; exact lgAt_of W x0 _ _ _ _ (by simp only; omega) (by simp only; omega)
  · rw [if_neg hr, dif_neg (by omega), dif_neg (by omega), dif_neg (by omega), dif_neg (by omega)]

/-- Point `2 b + j` of the grid: batch `b`, tile `j`. -/
def pt (b : Fin 4) (j : Fin 2) : Fin cfg0.N := ⟨2 * b.val + j.val, Nat.lt_of_lt_of_eq (by omega) N_0.symm⟩
/-- Logit `q` of batch `b`. -/
def logit (c : Dev nD) (b : Fin 4) (q : Fin 4096) : F .f32 :=
  lgAt (wtsAt V c (pt b ⟨q.val / 2048, by omega⟩)) (iblk V c 0 (pt b ⟨q.val / 2048, by omega⟩)) ⟨q.val % 2048, Nat.mod_lt _ (by decide)⟩
/-- The array of logits the stage leaves. -/
def G7 (c : Dev nD) : Vec F S4x1x4096 .f32 := fun y => logit V c (y 0) (y 2)
/-- Index `k` of a batch's row of features. -/
def ix1024 (k : Fin 1024) : S1x1x1024.Idx := fun a => match a with
  | ⟨0, _⟩ => ⟨0, Nat.one_pos⟩
  | ⟨1, _⟩ => ⟨0, Nat.one_pos⟩
  | ⟨2, _⟩ => k
/-- Feature `k` of batch `b`. -/
def feat (c : Dev nD) (b : Fin 4) (k : Fin 1024) : F .f32 :=
  k0_pay7 (stAt V c (pt b 1).val (pt b 1).isLt).a (stAt V c (pt b 1).val (pt b 1).isLt).s (ix1024 k)
/-- The array of features the stage leaves. -/
def G8 (c : Dev nD) : Vec F S4x1x1024 .f32 := fun y => feat V c (y 0) (y 2)

theorem coord1 (t : Fin cfg0.N) : (grid0.coords t 1).val = t.val % 2 := by
  have h : (grid0.coords t 1).val = t.val / 1 % 2 := Pipeline.Grid.coords_val t 1 (by decide) rfl
  rw [h, Nat.div_one]
theorem coord0 (t : Fin cfg0.N) : (grid0.coords t 0).val = t.val / 2 := by
  have h : (grid0.coords t 0).val = t.val / 2 % 4 := Pipeline.Grid.coords_val t 0 (by decide) rfl
  have := lt_of_lt_of_eq t.isLt N_0
  omega
theorem coord0_toNat (t : Fin cfg0.N) : (BitVec.ofNat 32 (grid0.coords t 0).val).toNat = (grid0.coords t 0).val := by
  have := (grid0.coords t 0).isLt
  have hb : grid0.bound 0 = 4 := rfl
  rw [BitVec.toNat_ofNat, Nat.mod_eq_of_lt (by omega)]
theorem index7 (t : Fin cfg0.N) : win0_7.index t = ![(grid0.coords t 0).val, 0, 0] := by
  exact funext fun a => match a with
    | ⟨0, _⟩ => coord0_toNat t
    | ⟨1, _⟩ => rfl
    | ⟨2, _⟩ => rfl
theorem index8 (t : Fin cfg0.N) : win0_8.index t = ![(grid0.coords t 0).val, 0, 0] := by
  exact funext fun a => match a with
    | ⟨0, _⟩ => coord0_toNat t
    | ⟨1, _⟩ => rfl
    | ⟨2, _⟩ => rfl
/-- What the second tile of a batch leaves of its row of logits. -/
theorem leaves7 (c : Dev nD) (t : Fin cfg0.N) (ht : t.val % 2 = 1) (X) (h : (rdat0 V c).Leaves 7 t X) (q : S1x1x4096.Idx) (b : Fin 4) (hb : b.val = t.val / 2) :
    X q = logit V c b (q 2) := by
  have hq : (q 2).val < 4096 := (q 2).isLt
  have hN : t.val < 8 := lt_of_lt_of_eq t.isLt N_0
  obtain ⟨Y, hY, hX⟩ := h
  replace hX : X = tileL (wtsAt V c t) (grid0.coords t) (iblk V c 0 t) Y := hX
  have hlt : t.val - 1 < cfg0.N := by omega
  have hY' : (rdat0 V c).Leaves 7 ⟨t.val - 1, hlt⟩ Y := by
    rcases ((rdat0 V c).finds_of_pos (w := 7) (t := t) rfl (by omega) Y).mp hY with hf | hl
    · exact absurd ((flush0_7 _).mp hf) (by simp only; omega)
    · exact hl
  obtain ⟨Y', -, hY''⟩ := hY'
  replace hY'' : Y = tileL (wtsAt V c ⟨t.val - 1, hlt⟩) (grid0.coords ⟨t.val - 1, hlt⟩) (iblk V c 0 ⟨t.val - 1, hlt⟩) Y' := hY''
  subst hX hY''
  rw [tileL_apply, tileL_apply, coord1, coord1]
  unfold logit
  by_cases h1 : (q 2).val / 2048 = t.val % 2
  · rw [if_pos h1]
    obtain rfl : t = pt b ⟨(q 2).val / 2048, Nat.div_lt_of_lt_mul hq⟩ := Fin.ext (by simp only [pt]; omega)
    rfl
  · rw [if_neg h1, if_pos (by simp only; omega)]
    have e : (⟨t.val - 1, hlt⟩ : Fin cfg0.N) = pt b ⟨(q 2).val / 2048, Nat.div_lt_of_lt_mul hq⟩ := Fin.ext (by simp only [pt]; omega)
    rw [e]

/-- The array of logits after the stage. -/
theorem arr7 (c : Dev nD) (G) (hG : (rdat0 V c).ArrAt 7 cfg0.N G) : G = G7 V c := by
  obtain ⟨X, hX, hA⟩ := hG.exists_exact
  rw [hA (Function.update (fun _ _ _ => Classical.arbitrary _) 7 X) fun u _ _ => by rw [Function.update_self]]
  refine Dat.arrAt_eq_of_covers ((rdat0 V c).withAfter (Function.update (fun _ _ _ => Classical.arbitrary _) 7 X)) (7 : Fin cfg0.W) (G7 V c) (by decide +kernel) fun t hf y => ?_
  rw [RDat.withAfter_after, Function.update_self]
  have ht := (flush0_7 t).mp hf
  have hN : t.val < 8 := lt_of_lt_of_eq t.isLt N_0
  refine (leaves7 V c t ht (X t) (hX t t.isLt hf) _ ⟨t.val / 2, by omega⟩ rfl).trans ?_
  have e0 : ((((cfg0.win 7).blk t).view.emb y) 0).val = t.val / 2 := by
    blk_simp [index7, coord0]
  have e2 : ((((cfg0.win 7).blk t).view.emb y) 2).val = (y 2).val := by
    blk_simp [index7, coord0]
  generalize ((cfg0.win 7).blk t).view.emb y = z at e0 e2
  exact congrArg₂ (logit V c) (Fin.ext e0.symm) (Fin.ext e2.symm)

/-- What the second tile of a batch leaves of its row of features. -/
theorem leaves8 (c : Dev nD) (t : Fin cfg0.N) (ht : t.val % 2 = 1) (X) (h : (rdat0 V c).Leaves 8 t X) :
    X = k0_pay7 (stAt V c t.val t.isLt).a (stAt V c t.val t.isLt).s := by
  obtain ⟨Y, hY, hX⟩ := h
  exact hX ht
/-- The array of features after the stage. -/
theorem arr8 (c : Dev nD) (G) (hG : (rdat0 V c).ArrAt 8 cfg0.N G) : G = G8 V c := by
  obtain ⟨X, hX, hA⟩ := hG.exists_exact
  rw [hA (Function.update (fun _ _ _ => Classical.arbitrary _) 8 X) fun u _ _ => by rw [Function.update_self]]
  refine Dat.arrAt_eq_of_covers ((rdat0 V c).withAfter (Function.update (fun _ _ _ => Classical.arbitrary _) 8 X)) (8 : Fin cfg0.W) (G8 V c) (by decide +kernel) fun t hf y => ?_
  rw [RDat.withAfter_after, Function.update_self]
  have ht := (flush0_8 t).mp hf
  have hN : t.val < 8 := lt_of_lt_of_eq t.isLt N_0
  rw [leaves8 V c t ht (X t) (hX t t.isLt hf)]
  have e0 : ((((cfg0.win 8).blk t).view.emb y) 0).val = t.val / 2 := by
    blk_simp [index8, coord0]
  have e2 : ((((cfg0.win 8).blk t).view.emb y) 2).val = (y 2).val := by
    blk_simp [index8, coord0]
  generalize ((cfg0.win 8).blk t).view.emb y = z at e0 e2
  refine (show _ = feat V c ⟨t.val / 2, by omega⟩ ((cfg0.win 8).xinj (cfg0.grid.coords t) y 2) from ?_).trans (congrArg₂ (feat V c) (Fin.ext e0.symm) (Fin.ext e2.symm))
  have hpt : t = pt ⟨t.val / 2, by omega⟩ 1 := Fin.ext (by simp only [pt]; omega)
  have hix : (cfg0.win 8).xinj (cfg0.grid.coords t) y = ix1024 ((cfg0.win 8).xinj (cfg0.grid.coords t) y 2) := by
    generalize (cfg0.win 8).xinj (cfg0.grid.coords t) y = w
    exact funext fun a => match a with
      | ⟨0, _⟩ => Fin.ext (Nat.lt_one_iff.mp (w 0).isLt)
      | ⟨1, _⟩ => Fin.ext (Nat.lt_one_iff.mp (w 1).isLt)
      | ⟨2, _⟩ => rfl
  generalize (cfg0.win 8).xinj (cfg0.grid.coords t) y = w at hix
  unfold feat
  refine (congrArg (fun u : Fin cfg0.N => k0_pay7 (stAt V c u.val u.isLt).a (stAt V c u.val u.isLt).s w) hpt).trans ?_
  exact congrArg (fun w => k0_pay7 _ _ w) hix
end Cert.KernelIdeal.Hand
-- ==== Proof.Stage2Run.lean ====
module

public import proofs.«01_k».proof.Proof.Stage1Step

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ### Whole loads of the second stage's operands -/

theorem ld_4x4096 (v : View sig .tc .vmem S4x4096 .f32) (f : v.ty.Contents (Elt F)) (inb : ∀ a : Fin 2, (![0, 0] : Fin 2 → ℕ) a + (![4, 4096] : Fin 2 → ℕ) a ≤ S4x4096.size a) :
    v.readAt (Elt F) (Rect.unit (s := S4x4096) ![0, 0] ![4, 4096] inb).toLoadRect f = v.read (Elt F) f := View.readAt_full v f inb
theorem ld_4x1024 (v : View sig .tc .vmem S4x1024 .f32) (f : v.ty.Contents (Elt F)) (inb : ∀ a : Fin 2, (![0, 0] : Fin 2 → ℕ) a + (![4, 1024] : Fin 2 → ℕ) a ≤ S4x1024.size a) :
    v.readAt (Elt F) (Rect.unit (s := S4x1024) ![0, 0] ![4, 1024] inb).toLoadRect f = v.read (Elt F) f := View.readAt_full v f inb
theorem ld_4x128 (v : View sig .tc .vmem S4x128 .f32) (f : v.ty.Contents (Elt F)) (inb : ∀ a : Fin 2, (![0, 0] : Fin 2 → ℕ) a + (![4, 128] : Fin 2 → ℕ) a ≤ S4x128.size a) :
    v.readAt (Elt F) (Rect.unit (s := S4x128) ![0, 0] ![4, 128] inb).toLoadRect f = v.read (Elt F) f := View.readAt_full v f inb
theorem ld_4x1 (v : View sig .tc .vmem S4x1 .f32) (f : v.ty.Contents (Elt F)) (inb : ∀ a : Fin 2, (![0, 0] : Fin 2 → ℕ) a + (![4, 1] : Fin 2 → ℕ) a ≤ S4x1.size a) :
    v.readAt (Elt F) (Rect.unit (s := S4x1) ![0, 0] ![4, 1] inb).toLoadRect f = v.read (Elt F) f := View.readAt_full v f inb
theorem ld_4x2 (v : View sig .tc .vmem S4x2 .f32) (f : v.ty.Contents (Elt F)) (inb : ∀ a : Fin 2, (![0, 0] : Fin 2 → ℕ) a + (![4, 2] : Fin 2 → ℕ) a ≤ S4x2.size a) :
    v.readAt (Elt F) (Rect.unit (s := S4x2) ![0, 0] ![4, 2] inb).toLoadRect f = v.read (Elt F) f := View.readAt_full v f inb
theorem ld_2x1024 (v : View sig .tc .vmem S2x1024 .f32) (f : v.ty.Contents (Elt F)) (inb : ∀ a : Fin 2, (![0, 0] : Fin 2 → ℕ) a + (![2, 1024] : Fin 2 → ℕ) a ≤ S2x1024.size a) :
    v.readAt (Elt F) (Rect.unit (s := S2x1024) ![0, 0] ![2, 1024] inb).toLoadRect f = v.read (Elt F) f := View.readAt_full v f inb
theorem ld_1x2 (v : View sig .tc .vmem S1x2 .f32) (f : v.ty.Contents (Elt F)) (inb : ∀ a : Fin 2, (![0, 0] : Fin 2 → ℕ) a + (![1, 2] : Fin 2 → ℕ) a ≤ S1x2.size a) :
    v.readAt (Elt F) (Rect.unit (s := S1x2) ![0, 0] ![1, 2] inb).toLoadRect f = v.read (Elt F) f := View.readAt_full v f inb

/-! ### What the second stage computes -/

/-- The four rows' scores, over the split weights: the terms of the four-row softmax before it is divided. -/
def top2 (x1 : Vec F S4x1024 .f32) (x2 : Vec F S1024x1024 .f32) (x3 x4 : Vec F S128x1024 .f32) (x5 : Vec F S1x256 .f32) (x6 : Vec F S4x128 .f32)
    (x7 : Vec F S4x1 .f32) : FVec F S4x4 .f32 :=
  k1_pay18 x1 (k1_pay2 x2) (k1_pay3 x2) (cat (k1_pay5 x3) (k1_pay8 x4)) (cat (k1_pay6 x3) (k1_pay9 x4)) x5 x6 x7
/-- Their row sums. -/
def den2 (x1 : Vec F S4x1024 .f32) (x2 : Vec F S1024x1024 .f32) (x3 x4 : Vec F S128x1024 .f32) (x5 : Vec F S1x256 .f32) (x6 : Vec F S4x128 .f32)
    (x7 : Vec F S4x1 .f32) : FVec F S4 .f32 :=
  k1_pay19 x1 (k1_pay2 x2) (k1_pay3 x2) (cat (k1_pay5 x3) (k1_pay8 x4)) (cat (k1_pay6 x3) (k1_pay9 x4)) x5 x6 x7
/-- The softmax of the first stage's scores. -/
def res18 (x0 : Vec F S4x4096 .f32) : FVec F S4x4096 .f32 := k1_pay16 x0
/-- The four rows' attention. -/
def res19 (x1 : Vec F S4x1024 .f32) (x2 : Vec F S1024x1024 .f32) (x3 x4 : Vec F S128x1024 .f32) (x5 : Vec F S1x256 .f32) (x6 : Vec F S4x128 .f32)
    (x7 : Vec F S4x1 .f32) : FVec F S4x4 .f32 := k1_pay20 (top2 x1 x2 x3 x4 x5 x6 x7) (den2 x1 x2 x3 x4 x5 x6 x7)
/-- The four classifiers' outputs. -/
def res20 (x1 : Vec F S4x1024 .f32) (x2 : Vec F S1024x1024 .f32) (x3 x4 : Vec F S128x1024 .f32) (x5 : Vec F S1x256 .f32) (x6 : Vec F S4x128 .f32)
    (x7 : Vec F S4x1 .f32) (x13 x14 : Vec F S4x1024 .f32) (x15 : Vec F S4x2 .f32) : FVec F S4x2 .f32 :=
  k1_pay21 (k1_pay17 x1) (top2 x1 x2 x3 x4 x5 x6 x7) (den2 x1 x2 x3 x4 x5 x6 x7) x13 x14 x15
/-- The slide's prediction. -/
def res21 (x1 : Vec F S4x1024 .f32) (x2 : Vec F S1024x1024 .f32) (x3 x4 : Vec F S128x1024 .f32) (x5 : Vec F S1x256 .f32) (x6 : Vec F S4x128 .f32)
    (x7 : Vec F S4x1 .f32) (x8 x9 : Vec F S128x1024 .f32) (x10 : Vec F S1x256 .f32) (x11 : Vec F S1x128 .f32) (x12 : Vec F S1x1 .f32)
    (x16 : Vec F S2x1024 .f32) (x17 : Vec F S1x2 .f32) : FVec F S1x2 .f32 :=
  k1_pay23 (k1_pay22 (k1_pay17 x1) (top2 x1 x2 x3 x4 x5 x6 x7) (den2 x1 x2 x3 x4 x5 x6 x7)) (cat (k1_pay11 x8) (k1_pay14 x9)) (cat (k1_pay12 x8) (k1_pay15 x9)) x10 x11 x12 x16 x17

section Run

variable (c : Dev nD)
  (arg0 : Memref sig .tc .vmem S4x4096 .f32) (harg0 : arg0.IsWhole)
  (arg1 : Memref sig .tc .vmem S4x1024 .f32) (harg1 : arg1.IsWhole)
  (arg2 : Memref sig .tc .vmem S1024x1024 .f32) (harg2 : arg2.IsWhole)
  (arg3 : Memref sig .tc .vmem S128x1024 .f32) (harg3 : arg3.IsWhole)
  (arg4 : Memref sig .tc .vmem S128x1024 .f32) (harg4 : arg4.IsWhole)
  (arg5 : Memref sig .tc .vmem S1x256 .f32) (harg5 : arg5.IsWhole)
  (arg6 : Memref sig .tc .vmem S4x128 .f32) (harg6 : arg6.IsWhole)
  (arg7 : Memref sig .tc .vmem S4x1 .f32) (harg7 : arg7.IsWhole)
  (arg8 : Memref sig .tc .vmem S128x1024 .f32) (harg8 : arg8.IsWhole)
  (arg9 : Memref sig .tc .vmem S128x1024 .f32) (harg9 : arg9.IsWhole)
  (arg10 : Memref sig .tc .vmem S1x256 .f32) (harg10 : arg10.IsWhole)
  (arg11 : Memref sig .tc .vmem S1x128 .f32) (harg11 : arg11.IsWhole)
  (arg12 : Memref sig .tc .vmem S1x1 .f32) (harg12 : arg12.IsWhole)
  (arg13 : Memref sig .tc .vmem S4x1024 .f32) (harg13 : arg13.IsWhole)
  (arg14 : Memref sig .tc .vmem S4x1024 .f32) (harg14 : arg14.IsWhole)
  (arg15 : Memref sig .tc .vmem S4x2 .f32) (harg15 : arg15.IsWhole)
  (arg16 : Memref sig .tc .vmem S2x1024 .f32) (harg16 : arg16.IsWhole)
  (arg17 : Memref sig .tc .vmem S1x2 .f32) (harg17 : arg17.IsWhole)
  (arg18 : Memref sig .tc .vmem S4x4096 .f32) (harg18 : arg18.IsWhole)
  (arg19 : Memref sig .tc .vmem S4x4 .f32) (harg19 : arg19.IsWhole)
  (arg20 : Memref sig .tc .vmem S4x2 .f32) (harg20 : arg20.IsWhole)
  (arg21 : Memref sig .tc .vmem S1x2 .f32) (harg21 : arg21.IsWhole)
  (arg22 : Memref sig .tc .vmem S1024x1024 .f32) (harg22 : arg22.IsWhole)
  (arg23 : Memref sig .tc .vmem S1024x1024 .bf16) (harg23 : arg23.IsWhole)
  (arg24 : Memref sig .tc .vmem S256x1024 .f32) (harg24 : arg24.IsWhole)
  (arg25 : Memref sig .tc .vmem S256x1024 .bf16) (harg25 : arg25.IsWhole)
  (arg26 : Memref sig .tc .vmem S256x1024 .f32) (harg26 : arg26.IsWhole)
  (arg27 : Memref sig .tc .vmem S256x1024 .bf16) (harg27 : arg27.IsWhole)
  (x0 : Vec F S4x4096 .f32)
  (x1 : Vec F S4x1024 .f32)
  (x2 : Vec F S1024x1024 .f32)
  (x3 : Vec F S128x1024 .f32)
  (x4 : Vec F S128x1024 .f32)
  (x5 : Vec F S1x256 .f32)
  (x6 : Vec F S4x128 .f32)
  (x7 : Vec F S4x1 .f32)
  (x8 : Vec F S128x1024 .f32)
  (x9 : Vec F S128x1024 .f32)
  (x10 : Vec F S1x256 .f32)
  (x11 : Vec F S1x128 .f32)
  (x12 : Vec F S1x1 .f32)
  (x13 : Vec F S4x1024 .f32)
  (x14 : Vec F S4x1024 .f32)
  (x15 : Vec F S4x2 .f32)
  (x16 : Vec F S2x1024 .f32)
  (x17 : Vec F S1x2 .f32)

set_option maxHeartbeats 1600000 in
/-- The second stage's body, run. -/
theorem run_2 (E : Set ℕ) (K : PUnit → sProp 𝕄) :
    iprop(owns (c : Thread nD τ) arg0 fullShare x0
        ∗ owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
        ∗ owns (c : Thread nD τ) arg15 fullShare x15
        ∗ owns (c : Thread nD τ) arg16 fullShare x16
        ∗ owns (c : Thread nD τ) arg17 fullShare x17
        ∗ (∃ d, owns (c : Thread nD τ) arg18 fullShare d)
        ∗ (∃ d, owns (c : Thread nD τ) arg19 fullShare d)
        ∗ (∃ d, owns (c : Thread nD τ) arg20 fullShare d)
        ∗ (∃ d, owns (c : Thread nD τ) arg21 fullShare d)
        ∗ (∃ d, owns (c : Thread nD τ) arg22 fullShare d)
        ∗ (∃ d, owns (c : Thread nD τ) arg23 fullShare d)
        ∗ (∃ d, owns (c : Thread nD τ) arg24 fullShare d)
        ∗ (∃ d, owns (c : Thread nD τ) arg25 fullShare d)
        ∗ (∃ d, owns (c : Thread nD τ) arg26 fullShare d)
        ∗ (∃ d, owns (c : Thread nD τ) arg27 fullShare d)
        ∗ (owns (c : Thread nD τ) arg0 fullShare x0
          ∗ owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ owns (c : Thread nD τ) arg8 fullShare x8
          ∗ owns (c : Thread nD τ) arg9 fullShare x9
          ∗ owns (c : Thread nD τ) arg10 fullShare x10
          ∗ owns (c : Thread nD τ) arg11 fullShare x11
          ∗ owns (c : Thread nD τ) arg12 fullShare x12
          ∗ owns (c : Thread nD τ) arg13 fullShare x13
          ∗ owns (c : Thread nD τ) arg14 fullShare x14
          ∗ owns (c : Thread nD τ) arg15 fullShare x15
          ∗ owns (c : Thread nD τ) arg16 fullShare x16
          ∗ owns (c : Thread nD τ) arg17 fullShare x17
          ∗ owns (c : Thread nD τ) arg18 fullShare (res18 x0)
          ∗ owns (c : Thread nD τ) arg19 fullShare (res19 x1 x2 x3 x4 x5 x6 x7)
          ∗ owns (c : Thread nD τ) arg20 fullShare (res20 x1 x2 x3 x4 x5 x6 x7 x13 x14 x15)
          ∗ owns (c : Thread nD τ) arg21 fullShare (res21 x1 x2 x3 x4 x5 x6 x7 x8 x9 x10 x11 x12 x16 x17)
          ∗ (∃ d, owns (c : Thread nD τ) arg22 fullShare d)
          ∗ (∃ d, owns (c : Thread nD τ) arg23 fullShare d)
          ∗ (∃ d, owns (c : Thread nD τ) arg24 fullShare d)
          ∗ (∃ d, owns (c : Thread nD τ) arg25 fullShare d)
          ∗ (∃ d, owns (c : Thread nD τ) arg26 fullShare d)
          ∗ (∃ d, owns (c : Thread nD τ) arg27 fullShare d) -∗ K ⟨⟩))
      ⊢ wp frame (wpE (defs₀ (F := F)) Variants.none c none) E (cc1__stage2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc1__stage2_body_eq_skeleton]; unfold cc1__stage2_body_skel
  simp only [k1_part1_eq_skeleton, k1_part2_eq_skeleton, k1_part3_eq_skeleton, k1_part4_eq_skeleton, k1_part5_eq_skeleton]
  unfold owns
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, Hk⟩
  obtain rfl := harg0.eq_unread h0
  obtain rfl := harg1.eq_unread h1
  obtain rfl := harg2.eq_unread h2
  obtain rfl := harg3.eq_unread h3
  obtain rfl := harg4.eq_unread h4
  obtain rfl := harg5.eq_unread h5
  obtain rfl := harg6.eq_unread h6
  obtain rfl := harg7.eq_unread h7
  obtain rfl := harg8.eq_unread h8
  obtain rfl := harg9.eq_unread h9
  obtain rfl := harg10.eq_unread h10
  obtain rfl := harg11.eq_unread h11
  obtain rfl := harg12.eq_unread h12
  obtain rfl := harg13.eq_unread h13
  obtain rfl := harg14.eq_unread h14
  obtain rfl := harg15.eq_unread h15
  obtain rfl := harg16.eq_unread h16
  obtain rfl := harg17.eq_unread h17
  sl_exec
  sl_step
  iapply Hk
  isplitl [H0]
  · iexists _; isplitr; swap
    · iexact H0
    ipureintro
    exact harg0.read_unread _
  isplitl [H1]
  · iexists _; isplitr; swap
    · iexact H1
    ipureintro
    exact harg1.read_unread _
  isplitl [H2]
  · iexists _; isplitr; swap
    · iexact H2
    ipureintro
    exact harg2.read_unread _
  isplitl [H3]
  · iexists _; isplitr; swap
    · iexact H3
    ipureintro
    exact harg3.read_unread _
  isplitl [H4]
  · iexists _; isplitr; swap
    · iexact H4
    ipureintro
    exact harg4.read_unread _
  isplitl [H5]
  · iexists _; isplitr; swap
    · iexact H5
    ipureintro
    exact harg5.read_unread _
  isplitl [H6]
  · iexists _; isplitr; swap
    · iexact H6
    ipureintro
    exact harg6.read_unread _
  isplitl [H7]
  · iexists _; isplitr; swap
    · iexact H7
    ipureintro
    exact harg7.read_unread _
  isplitl [H8]
  · iexists _; isplitr; swap
    · iexact H8
    ipureintro
    exact harg8.read_unread _
  isplitl [H9]
  · iexists _; isplitr; swap
    · iexact H9
    ipureintro
    exact harg9.read_unread _
  isplitl [H10]
  · iexists _; isplitr; swap
    · iexact H10
    ipureintro
    exact harg10.read_unread _
  isplitl [H11]
  · iexists _; isplitr; swap
    · iexact H11
    ipureintro
    exact harg11.read_unread _
  isplitl [H12]
  · iexists _; isplitr; swap
    · iexact H12
    ipureintro
    exact harg12.read_unread _
  isplitl [H13]
  · iexists _; isplitr; swap
    · iexact H13
    ipureintro
    exact harg13.read_unread _
  isplitl [H14]
  · iexists _; isplitr; swap
    · iexact H14
    ipureintro
    exact harg14.read_unread _
  isplitl [H15]
  · iexists _; isplitr; swap
    · iexact H15
    ipureintro
    exact harg15.read_unread _
  isplitl [H16]
  · iexists _; isplitr; swap
    · iexact H16
    ipureintro
    exact harg16.read_unread _
  isplitl [H17]
  · iexists _; isplitr; swap
    · iexact H17
    ipureintro
    exact harg17.read_unread _
  isplitl [H18]
  · iexists _; isplitr; swap
    · iexact H18
    ipureintro
    skip
    refine (View.read_writes_full _ _ _ _ _).trans ?_
    simp only [ld_1x1, ld_1xH, ld_HxH, ld_HxHl, ld_256xH, ld_256xHl, ld_1x256, ld_1x128, ld_128xH, cov_1x1, cov_1xH, cov_HxH, cov_HxHl, cov_cat, Memref.IsWhole.read_unread, ld_4x4096, ld_4x1024, ld_4x128, ld_4x1, ld_4x2, ld_2x1024, ld_1x2]
    rfl
  isplitl [H19]
  · iexists _; isplitr; swap
    · iexact H19
    ipureintro
    delta run_2.sl.H22_1 run_2.sl.H23_1 run_2.sl.H24_2 run_2.sl.H25_2 run_2.sl.H26_2 run_2.sl.H27_2 run_2.sl.r run_2.sl.r_1 run_2.sl.r_2 run_2.sl.r_3 run_2.sl.r_4 run_2.sl.v146 run_2.sl.v149 run_2.sl.v74 run_2.sl.v77 run_2.sl.v82 run_2.sl.v85
    refine (View.read_writes_full _ _ _ _ _).trans ?_
    simp only [ld_1x1, ld_1xH, ld_HxH, ld_HxHl, ld_256xH, ld_256xHl, ld_1x256, ld_1x128, ld_128xH, cov_1x1, cov_1xH, cov_HxH, cov_HxHl, cov_cat, Memref.IsWhole.read_unread, ld_4x4096, ld_4x1024, ld_4x128, ld_4x1, ld_4x2, ld_2x1024, ld_1x2]
    rfl
  isplitl [H20]
  · iexists _; isplitr; swap
    · iexact H20
    ipureintro
    delta run_2.sl.H22_1 run_2.sl.H23_1 run_2.sl.H24_2 run_2.sl.H25_2 run_2.sl.H26_2 run_2.sl.H27_2 run_2.sl.r run_2.sl.r_1 run_2.sl.r_2 run_2.sl.r_3 run_2.sl.r_4 run_2.sl.v146 run_2.sl.v149 run_2.sl.v74 run_2.sl.v77 run_2.sl.v82 run_2.sl.v85
    refine (View.read_writes_full _ _ _ _ _).trans ?_
    simp only [ld_1x1, ld_1xH, ld_HxH, ld_HxHl, ld_256xH, ld_256xHl, ld_1x256, ld_1x128, ld_128xH, cov_1x1, cov_1xH, cov_HxH, cov_HxHl, cov_cat, Memref.IsWhole.read_unread, ld_4x4096, ld_4x1024, ld_4x128, ld_4x1, ld_4x2, ld_2x1024, ld_1x2]
    rfl
  isplitl [H21]
  · iexists _; isplitr; swap
    · iexact H21
    ipureintro
    delta run_2.sl.H22_1 run_2.sl.H23_1 run_2.sl.H24_2 run_2.sl.H25_2 run_2.sl.H26_2 run_2.sl.H27_2 run_2.sl.r run_2.sl.r_1 run_2.sl.r_2 run_2.sl.r_3 run_2.sl.r_4 run_2.sl.v146 run_2.sl.v149 run_2.sl.v74 run_2.sl.v77 run_2.sl.v82 run_2.sl.v85
    refine (View.read_writes_full _ _ _ _ _).trans ?_
    simp only [ld_1x1, ld_1xH, ld_HxH, ld_HxHl, ld_256xH, ld_256xHl, ld_1x256, ld_1x128, ld_128xH, cov_1x1, cov_1xH, cov_HxH, cov_HxHl, cov_cat, Memref.IsWhole.read_unread, ld_4x4096, ld_4x1024, ld_4x128, ld_4x1, ld_4x2, ld_2x1024, ld_1x2]
    rfl
  isplitl [H22]
  · iexists _; iexists _; isplitr; swap
    · iexact H22
    ipureintro
    rfl
  isplitl [H23]
  · iexists _; iexists _; isplitr; swap
    · iexact H23
    ipureintro
    rfl
  isplitl [H24]
  · iexists _; iexists _; isplitr; swap
    · iexact H24
    ipureintro
    rfl
  isplitl [H25]
  · iexists _; iexists _; isplitr; swap
    · iexact H25
    ipureintro
    rfl
  isplitl [H26]
  · iexists _; iexists _; isplitr; swap
    · iexact H26
    ipureintro
    rfl
  iexists _; iexists _; isplitr; swap
  · iexact H27
  ipureintro
  rfl

end Run

end Cert.KernelIdeal.Hand
end
-- ==== Proof.Stage2Dat.lean ====
module

public import proofs.«01_k».proof.Proof.Stage2Run
public import proofs.«01_k».proof.Proof.Gen.KernelIdeal.Regions

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR sig nD τ) ℕ

variable (V : Dev nD → Valuation τ sig (Elt F))

/-- Window `w`'s block at the second stage's point, read off its array as the region finds it. -/
def jblk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

abbrev scM1_0 : Memref sig .tc .vmem S1024x1024 .f32 := Memref.whole cc1_scratch0
abbrev scM1_1 : Memref sig .tc .vmem S1024x1024 .bf16 := Memref.whole cc1_scratch1
abbrev scM1_2 : Memref sig .tc .vmem S256x1024 .f32 := Memref.whole cc1_scratch2
abbrev scM1_3 : Memref sig .tc .vmem S256x1024 .bf16 := Memref.whole cc1_scratch3
abbrev scM1_4 : Memref sig .tc .vmem S256x1024 .f32 := Memref.whole cc1_scratch4
abbrev scM1_5 : Memref sig .tc .vmem S256x1024 .bf16 := Memref.whole cc1_scratch5
/-- The scoped buffers the stage neither stages windows in nor computes in. -/
abbrev but1 (c : Dev nD) : sProp 𝕄 :=
  Pipeline.scopedRestBut (Ix := Unit) (Name := ℕ) (U := UR sig nD τ) (Lvl := ℕ) (Val := Elt F) spec1 c [cc1_scratch0, cc1_scratch1, cc1_scratch2, cc1_scratch3, cc1_scratch4, cc1_scratch5]
/-- The scoped buffers at the region's entry: the six scratch buffers at anything, and the others. -/
theorem scoped_eq1 (c : Dev nD) :
    (Pipeline.scopedRest (Ix := Unit) (Name := ℕ) (U := UR sig nD τ) (Lvl := ℕ) (Val := Elt F) spec1 c : sProp 𝕄)
      = iprop(iprop((∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d) ∗ (∃ d, owns (c : Thread nD τ) scM1_4 fullShare d) ∗ (∃ d, owns (c : Thread nD τ) scM1_5 fullShare d))
          ∗ but1 c) := by
  rw [scopedRest1_split c]
  simp only [scM1_0, scM1_1, scM1_2, scM1_3, scM1_4, scM1_5, owns_whole]
  rfl

/-- What the second stage's one point leaves: the inputs unchanged, the outputs at what the body computes. -/
def dat1 (c : Dev nD) : Dat τ (Elt F) Unit ℕ (UR sig nD τ) ℕ cfg1 c where
  A w := V c (Proc.devRef .tc (Pipeline.arrRef spec1 w))
  after w t := match w with
    | ⟨0, _⟩ => jblk V c 0 t
    | ⟨1, _⟩ => jblk V c 1 t
    | ⟨2, _⟩ => jblk V c 2 t
    | ⟨3, _⟩ => jblk V c 3 t
    | ⟨4, _⟩ => jblk V c 4 t
    | ⟨5, _⟩ => jblk V c 5 t
    | ⟨6, _⟩ => jblk V c 6 t
    | ⟨7, _⟩ => jblk V c 7 t
    | ⟨8, _⟩ => jblk V c 8 t
    | ⟨9, _⟩ => jblk V c 9 t
    | ⟨10, _⟩ => jblk V c 10 t
    | ⟨11, _⟩ => jblk V c 11 t
    | ⟨12, _⟩ => jblk V c 12 t
    | ⟨13, _⟩ => jblk V c 13 t
    | ⟨14, _⟩ => jblk V c 14 t
    | ⟨15, _⟩ => jblk V c 15 t
    | ⟨16, _⟩ => jblk V c 16 t
    | ⟨17, _⟩ => jblk V c 17 t
    | ⟨18, _⟩ => res18 (jblk V c 0 t)
    | ⟨19, _⟩ => res19 (jblk V c 1 t) (jblk V c 2 t) (jblk V c 3 t) (jblk V c 4 t) (jblk V c 5 t) (jblk V c 6 t) (jblk V c 7 t)
    | ⟨20, _⟩ => res20 (jblk V c 1 t) (jblk V c 2 t) (jblk V c 3 t) (jblk V c 4 t) (jblk V c 5 t) (jblk V c 6 t) (jblk V c 7 t) (jblk V c 13 t) (jblk V c 14 t) (jblk V c 15 t)
    | ⟨21, _⟩ => res21 (jblk V c 1 t) (jblk V c 2 t) (jblk V c 3 t) (jblk V c 4 t) (jblk V c 5 t) (jblk V c 6 t) (jblk V c 7 t) (jblk V c 8 t) (jblk V c 9 t) (jblk V c 10 t) (jblk V c 11 t) (jblk V c 12 t) (jblk V c 16 t) (jblk V c 17 t)
    | ⟨n + 22, h⟩ => Pipeline.Dat.unnamed (cfg := cfg1) ⟨n + 22, h⟩ t
  Φ _ := Pipeline.scopedRest (Ix := Unit) (Name := ℕ) (U := UR sig nD τ) (Lvl := ℕ) (Val := Elt F) spec1 c
  q _ := fullShare
  owed _ := 0
/-- The stage's proof data. -/
def rdat1 (c : Dev nD) : RDat τ (Elt F) Unit ℕ (UR sig nD τ) ℕ cfg1 c := (dat1 V c).toR
theorem A1_eq (c : Dev nD) (w : Fin cfg1.W) : (dat1 V c).A w = V c (Proc.devRef .tc (Pipeline.arrRef spec1 w)) := by dsimp only [dat1]
theorem finds1_0 (c : Dev nD) (t : Fin cfg1.N) (X) (h : (rdat1 V c).Finds 0 t X) : X = jblk V c 0 t := by
  obtain ⟨d, rfl⟩ := (dat1 V c).toR_finds 0 t X h
  exact ((dat1 V c).before_in_eq_fetched 0 rfl (fun _ => rfl) (fun _ _ _ => rfl) (fun t => by rw [show (dat1 V c).after 0 t = jblk V c 0 t from rfl]; unfold Dat.blockOf jblk; rw [A1_eq]) t d).trans
    (by unfold Dat.fetched Dat.blockOf jblk; rw [A1_eq]; rfl)
theorem finds1_1 (c : Dev nD) (t : Fin cfg1.N) (X) (h : (rdat1 V c).Finds 1 t X) : X = jblk V c 1 t := by
  obtain ⟨d, rfl⟩ := (dat1 V c).toR_finds 1 t X h
  exact ((dat1 V c).before_in_eq_fetched 1 rfl (fun _ => rfl) (fun _ _ _ => rfl) (fun t => by rw [show (dat1 V c).after 1 t = jblk V c 1 t from rfl]; unfold Dat.blockOf jblk; rw [A1_eq]) t d).trans
    (by unfold Dat.fetched Dat.blockOf jblk; rw [A1_eq]; rfl)
theorem finds1_2 (c : Dev nD) (t : Fin cfg1.N) (X) (h : (rdat1 V c).Finds 2 t X) : X = jblk V c 2 t := by
  obtain ⟨d, rfl⟩ := (dat1 V c).toR_finds 2 t X h
  exact ((dat1 V c).before_in_eq_fetched 2 rfl (fun _ => rfl) (fun _ _ _ => rfl) (fun t => by rw [show (dat1 V c).after 2 t = jblk V c 2 t from rfl]; unfold Dat.blockOf jblk; rw [A1_eq]) t d).trans
    (by unfold Dat.fetched Dat.blockOf jblk; rw [A1_eq]; rfl)
theorem finds1_3 (c : Dev nD) (t : Fin cfg1.N) (X) (h : (rdat1 V c).Finds 3 t X) : X = jblk V c 3 t := by
  obtain ⟨d, rfl⟩ := (dat1 V c).toR_finds 3 t X h
  exact ((dat1 V c).before_in_eq_fetched 3 rfl (fun _ => rfl) (fun _ _ _ => rfl) (fun t => by rw [show (dat1 V c).after 3 t = jblk V c 3 t from rfl]; unfold Dat.blockOf jblk; rw [A1_eq]) t d).trans
    (by unfold Dat.fetched Dat.blockOf jblk; rw [A1_eq]; rfl)
theorem finds1_4 (c : Dev nD) (t : Fin cfg1.N) (X) (h : (rdat1 V c).Finds 4 t X) : X = jblk V c 4 t := by
  obtain ⟨d, rfl⟩ := (dat1 V c).toR_finds 4 t X h
  exact ((dat1 V c).before_in_eq_fetched 4 rfl (fun _ => rfl) (fun _ _ _ => rfl) (fun t => by rw [show (dat1 V c).after 4 t = jblk V c 4 t from rfl]; unfold Dat.blockOf jblk; rw [A1_eq]) t d).trans
    (by unfold Dat.fetched Dat.blockOf jblk; rw [A1_eq]; rfl)
theorem finds1_5 (c : Dev nD) (t : Fin cfg1.N) (X) (h : (rdat1 V c).Finds 5 t X) : X = jblk V c 5 t := by
  obtain ⟨d, rfl⟩ := (dat1 V c).toR_finds 5 t X h
  exact ((dat1 V c).before_in_eq_fetched 5 rfl (fun _ => rfl) (fun _ _ _ => rfl) (fun t => by rw [show (dat1 V c).after 5 t = jblk V c 5 t from rfl]; unfold Dat.blockOf jblk; rw [A1_eq]) t d).trans
    (by unfold Dat.fetched Dat.blockOf jblk; rw [A1_eq]; rfl)
theorem finds1_6 (c : Dev nD) (t : Fin cfg1.N) (X) (h : (rdat1 V c).Finds 6 t X) : X = jblk V c 6 t := by
  obtain ⟨d, rfl⟩ := (dat1 V c).toR_finds 6 t X h
  exact ((dat1 V c).before_in_eq_fetched 6 rfl (fun _ => rfl) (fun _ _ _ => rfl) (fun t => by rw [show (dat1 V c).after 6 t = jblk V c 6 t from rfl]; unfold Dat.blockOf jblk; rw [A1_eq]) t d).trans
    (by unfold Dat.fetched Dat.blockOf jblk; rw [A1_eq]; rfl)
theorem finds1_7 (c : Dev nD) (t : Fin cfg1.N) (X) (h : (rdat1 V c).Finds 7 t X) : X = jblk V c 7 t := by
  obtain ⟨d, rfl⟩ := (dat1 V c).toR_finds 7 t X h
  exact ((dat1 V c).before_in_eq_fetched 7 rfl (fun _ => rfl) (fun _ _ _ => rfl) (fun t => by rw [show (dat1 V c).after 7 t = jblk V c 7 t from rfl]; unfold Dat.blockOf jblk; rw [A1_eq]) t d).trans
    (by unfold Dat.fetched Dat.blockOf jblk; rw [A1_eq]; rfl)
theorem finds1_8 (c : Dev nD) (t : Fin cfg1.N) (X) (h : (rdat1 V c).Finds 8 t X) : X = jblk V c 8 t := by
  obtain ⟨d, rfl⟩ := (dat1 V c).toR_finds 8 t X h
  exact ((dat1 V c).before_in_eq_fetched 8 rfl (fun _ => rfl) (fun _ _ _ => rfl) (fun t => by rw [show (dat1 V c).after 8 t = jblk V c 8 t from rfl]; unfold Dat.blockOf jblk; rw [A1_eq]) t d).trans
    (by unfold Dat.fetched Dat.blockOf jblk; rw [A1_eq]; rfl)
theorem finds1_9 (c : Dev nD) (t : Fin cfg1.N) (X) (h : (rdat1 V c).Finds 9 t X) : X = jblk V c 9 t := by
  obtain ⟨d, rfl⟩ := (dat1 V c).toR_finds 9 t X h
  exact ((dat1 V c).before_in_eq_fetched 9 rfl (fun _ => rfl) (fun _ _ _ => rfl) (fun t => by rw [show (dat1 V c).after 9 t = jblk V c 9 t from rfl]; unfold Dat.blockOf jblk; rw [A1_eq]) t d).trans
    (by unfold Dat.fetched Dat.blockOf jblk; rw [A1_eq]; rfl)
theorem finds1_10 (c : Dev nD) (t : Fin cfg1.N) (X) (h : (rdat1 V c).Finds 10 t X) : X = jblk V c 10 t := by
  obtain ⟨d, rfl⟩ := (dat1 V c).toR_finds 10 t X h
  exact ((dat1 V c).before_in_eq_fetched 10 rfl (fun _ => rfl) (fun _ _ _ => rfl) (fun t => by rw [show (dat1 V c).after 10 t = jblk V c 10 t from rfl]; unfold Dat.blockOf jblk; rw [A1_eq]) t d).trans
    (by unfold Dat.fetched Dat.blockOf jblk; rw [A1_eq]; rfl)
theorem finds1_11 (c : Dev nD) (t : Fin cfg1.N) (X) (h : (rdat1 V c).Finds 11 t X) : X = jblk V c 11 t := by
  obtain ⟨d, rfl⟩ := (dat1 V c).toR_finds 11 t X h
  exact ((dat1 V c).before_in_eq_fetched 11 rfl (fun _ => rfl) (fun _ _ _ => rfl) (fun t => by rw [show (dat1 V c).after 11 t = jblk V c 11 t from rfl]; unfold Dat.blockOf jblk; rw [A1_eq]) t d).trans
    (by unfold Dat.fetched Dat.blockOf jblk; rw [A1_eq]; rfl)
theorem finds1_12 (c : Dev nD) (t : Fin cfg1.N) (X) (h : (rdat1 V c).Finds 12 t X) : X = jblk V c 12 t := by
  obtain ⟨d, rfl⟩ := (dat1 V c).toR_finds 12 t X h
  exact ((dat1 V c).before_in_eq_fetched 12 rfl (fun _ => rfl) (fun _ _ _ => rfl) (fun t => by rw [show (dat1 V c).after 12 t = jblk V c 12 t from rfl]; unfold Dat.blockOf jblk; rw [A1_eq]) t d).trans
    (by unfold Dat.fetched Dat.blockOf jblk; rw [A1_eq]; rfl)
theorem finds1_13 (c : Dev nD) (t : Fin cfg1.N) (X) (h : (rdat1 V c).Finds 13 t X) : X = jblk V c 13 t := by
  obtain ⟨d, rfl⟩ := (dat1 V c).toR_finds 13 t X h
  exact ((dat1 V c).before_in_eq_fetched 13 rfl (fun _ => rfl) (fun _ _ _ => rfl) (fun t => by rw [show (dat1 V c).after 13 t = jblk V c 13 t from rfl]; unfold Dat.blockOf jblk; rw [A1_eq]) t d).trans
    (by unfold Dat.fetched Dat.blockOf jblk; rw [A1_eq]; rfl)
theorem finds1_14 (c : Dev nD) (t : Fin cfg1.N) (X) (h : (rdat1 V c).Finds 14 t X) : X = jblk V c 14 t := by
  obtain ⟨d, rfl⟩ := (dat1 V c).toR_finds 14 t X h
  exact ((dat1 V c).before_in_eq_fetched 14 rfl (fun _ => rfl) (fun _ _ _ => rfl) (fun t => by rw [show (dat1 V c).after 14 t = jblk V c 14 t from rfl]; unfold Dat.blockOf jblk; rw [A1_eq]) t d).trans
    (by unfold Dat.fetched Dat.blockOf jblk; rw [A1_eq]; rfl)
theorem finds1_15 (c : Dev nD) (t : Fin cfg1.N) (X) (h : (rdat1 V c).Finds 15 t X) : X = jblk V c 15 t := by
  obtain ⟨d, rfl⟩ := (dat1 V c).toR_finds 15 t X h
  exact ((dat1 V c).before_in_eq_fetched 15 rfl (fun _ => rfl) (fun _ _ _ => rfl) (fun t => by rw [show (dat1 V c).after 15 t = jblk V c 15 t from rfl]; unfold Dat.blockOf jblk; rw [A1_eq]) t d).trans
    (by unfold Dat.fetched Dat.blockOf jblk; rw [A1_eq]; rfl)
theorem finds1_16 (c : Dev nD) (t : Fin cfg1.N) (X) (h : (rdat1 V c).Finds 16 t X) : X = jblk V c 16 t := by
  obtain ⟨d, rfl⟩ := (dat1 V c).toR_finds 16 t X h
  exact ((dat1 V c).before_in_eq_fetched 16 rfl (fun _ => rfl) (fun _ _ _ => rfl) (fun t => by rw [show (dat1 V c).after 16 t = jblk V c 16 t from rfl]; unfold Dat.blockOf jblk; rw [A1_eq]) t d).trans
    (by unfold Dat.fetched Dat.blockOf jblk; rw [A1_eq]; rfl)
theorem finds1_17 (c : Dev nD) (t : Fin cfg1.N) (X) (h : (rdat1 V c).Finds 17 t X) : X = jblk V c 17 t := by
  obtain ⟨d, rfl⟩ := (dat1 V c).toR_finds 17 t X h
  exact ((dat1 V c).before_in_eq_fetched 17 rfl (fun _ => rfl) (fun _ _ _ => rfl) (fun t => by rw [show (dat1 V c).after 17 t = jblk V c 17 t from rfl]; unfold Dat.blockOf jblk; rw [A1_eq]) t d).trans
    (by unfold Dat.fetched Dat.blockOf jblk; rw [A1_eq]; rfl)
theorem leaves1_0 (c : Dev nD) (t : Fin cfg1.N) (Y) : (rdat1 V c).after 0 t Y (jblk V c 0 t) :=
  (show (dat1 V c).Leaves 0 t (jblk V c 0 t) from rfl)
theorem leaves1_1 (c : Dev nD) (t : Fin cfg1.N) (Y) : (rdat1 V c).after 1 t Y (jblk V c 1 t) :=
  (show (dat1 V c).Leaves 1 t (jblk V c 1 t) from rfl)
theorem leaves1_2 (c : Dev nD) (t : Fin cfg1.N) (Y) : (rdat1 V c).after 2 t Y (jblk V c 2 t) :=
  (show (dat1 V c).Leaves 2 t (jblk V c 2 t) from rfl)
theorem leaves1_3 (c : Dev nD) (t : Fin cfg1.N) (Y) : (rdat1 V c).after 3 t Y (jblk V c 3 t) :=
  (show (dat1 V c).Leaves 3 t (jblk V c 3 t) from rfl)
theorem leaves1_4 (c : Dev nD) (t : Fin cfg1.N) (Y) : (rdat1 V c).after 4 t Y (jblk V c 4 t) :=
  (show (dat1 V c).Leaves 4 t (jblk V c 4 t) from rfl)
theorem leaves1_5 (c : Dev nD) (t : Fin cfg1.N) (Y) : (rdat1 V c).after 5 t Y (jblk V c 5 t) :=
  (show (dat1 V c).Leaves 5 t (jblk V c 5 t) from rfl)
theorem leaves1_6 (c : Dev nD) (t : Fin cfg1.N) (Y) : (rdat1 V c).after 6 t Y (jblk V c 6 t) :=
  (show (dat1 V c).Leaves 6 t (jblk V c 6 t) from rfl)
theorem leaves1_7 (c : Dev nD) (t : Fin cfg1.N) (Y) : (rdat1 V c).after 7 t Y (jblk V c 7 t) :=
  (show (dat1 V c).Leaves 7 t (jblk V c 7 t) from rfl)
theorem leaves1_8 (c : Dev nD) (t : Fin cfg1.N) (Y) : (rdat1 V c).after 8 t Y (jblk V c 8 t) :=
  (show (dat1 V c).Leaves 8 t (jblk V c 8 t) from rfl)
theorem leaves1_9 (c : Dev nD) (t : Fin cfg1.N) (Y) : (rdat1 V c).after 9 t Y (jblk V c 9 t) :=
  (show (dat1 V c).Leaves 9 t (jblk V c 9 t) from rfl)
theorem leaves1_10 (c : Dev nD) (t : Fin cfg1.N) (Y) : (rdat1 V c).after 10 t Y (jblk V c 10 t) :=
  (show (dat1 V c).Leaves 10 t (jblk V c 10 t) from rfl)
theorem leaves1_11 (c : Dev nD) (t : Fin cfg1.N) (Y) : (rdat1 V c).after 11 t Y (jblk V c 11 t) :=
  (show (dat1 V c).Leaves 11 t (jblk V c 11 t) from rfl)
theorem leaves1_12 (c : Dev nD) (t : Fin cfg1.N) (Y) : (rdat1 V c).after 12 t Y (jblk V c 12 t) :=
  (show (dat1 V c).Leaves 12 t (jblk V c 12 t) from rfl)
theorem leaves1_13 (c : Dev nD) (t : Fin cfg1.N) (Y) : (rdat1 V c).after 13 t Y (jblk V c 13 t) :=
  (show (dat1 V c).Leaves 13 t (jblk V c 13 t) from rfl)
theorem leaves1_14 (c : Dev nD) (t : Fin cfg1.N) (Y) : (rdat1 V c).after 14 t Y (jblk V c 14 t) :=
  (show (dat1 V c).Leaves 14 t (jblk V c 14 t) from rfl)
theorem leaves1_15 (c : Dev nD) (t : Fin cfg1.N) (Y) : (rdat1 V c).after 15 t Y (jblk V c 15 t) :=
  (show (dat1 V c).Leaves 15 t (jblk V c 15 t) from rfl)
theorem leaves1_16 (c : Dev nD) (t : Fin cfg1.N) (Y) : (rdat1 V c).after 16 t Y (jblk V c 16 t) :=
  (show (dat1 V c).Leaves 16 t (jblk V c 16 t) from rfl)
theorem leaves1_17 (c : Dev nD) (t : Fin cfg1.N) (Y) : (rdat1 V c).after 17 t Y (jblk V c 17 t) :=
  (show (dat1 V c).Leaves 17 t (jblk V c 17 t) from rfl)
theorem leaves1_18 (c : Dev nD) (t : Fin cfg1.N) (Y) : (rdat1 V c).after 18 t Y (res18 (jblk V c 0 t)) :=
  (show (dat1 V c).Leaves 18 t (res18 (jblk V c 0 t)) from rfl)
theorem leaves1_19 (c : Dev nD) (t : Fin cfg1.N) (Y) : (rdat1 V c).after 19 t Y (res19 (jblk V c 1 t) (jblk V c 2 t) (jblk V c 3 t) (jblk V c 4 t) (jblk V c 5 t) (jblk V c 6 t) (jblk V c 7 t)) :=
  (show (dat1 V c).Leaves 19 t (res19 (jblk V c 1 t) (jblk V c 2 t) (jblk V c 3 t) (jblk V c 4 t) (jblk V c 5 t) (jblk V c 6 t) (jblk V c 7 t)) from rfl)
theorem leaves1_20 (c : Dev nD) (t : Fin cfg1.N) (Y) : (rdat1 V c).after 20 t Y (res20 (jblk V c 1 t) (jblk V c 2 t) (jblk V c 3 t) (jblk V c 4 t) (jblk V c 5 t) (jblk V c 6 t) (jblk V c 7 t) (jblk V c 13 t) (jblk V c 14 t) (jblk V c 15 t)) :=
  (show (dat1 V c).Leaves 20 t (res20 (jblk V c 1 t) (jblk V c 2 t) (jblk V c 3 t) (jblk V c 4 t) (jblk V c 5 t) (jblk V c 6 t) (jblk V c 7 t) (jblk V c 13 t) (jblk V c 14 t) (jblk V c 15 t)) from rfl)
theorem leaves1_21 (c : Dev nD) (t : Fin cfg1.N) (Y) : (rdat1 V c).after 21 t Y (res21 (jblk V c 1 t) (jblk V c 2 t) (jblk V c 3 t) (jblk V c 4 t) (jblk V c 5 t) (jblk V c 6 t) (jblk V c 7 t) (jblk V c 8 t) (jblk V c 9 t) (jblk V c 10 t) (jblk V c 11 t) (jblk V c 12 t) (jblk V c 16 t) (jblk V c 17 t)) :=
  (show (dat1 V c).Leaves 21 t (res21 (jblk V c 1 t) (jblk V c 2 t) (jblk V c 3 t) (jblk V c 4 t) (jblk V c 5 t) (jblk V c 6 t) (jblk V c 7 t) (jblk V c 8 t) (jblk V c 9 t) (jblk V c 10 t) (jblk V c 11 t) (jblk V c 12 t) (jblk V c 16 t) (jblk V c 17 t)) from rfl)

theorem defs₀_row1 (t : Fin cfg1.N) : (defs₀ (F := F)) .tc cfg1.body (cfg1.bodyArgs t (cfg1.slots t)) = bodyAt1 t := by
  unfold defs₀; rw [Defs.onTc_tc]

set_option maxHeartbeats 4000000 in
/-- The body at the one point. -/
theorem body1 (c : Dev nD) : (rdat1 V c).BodyObligation (defs₀ (F := F)) Variants.none () Set.univ := fun t Y hY => by
  rw [bigSep_W1, bigSep_W1, defs₀_row1]
  have e0 := finds1_0 V c t _ (hY 0)
  have e1 := finds1_1 V c t _ (hY 1)
  have e2 := finds1_2 V c t _ (hY 2)
  have e3 := finds1_3 V c t _ (hY 3)
  have e4 := finds1_4 V c t _ (hY 4)
  have e5 := finds1_5 V c t _ (hY 5)
  have e6 := finds1_6 V c t _ (hY 6)
  have e7 := finds1_7 V c t _ (hY 7)
  have e8 := finds1_8 V c t _ (hY 8)
  have e9 := finds1_9 V c t _ (hY 9)
  have e10 := finds1_10 V c t _ (hY 10)
  have e11 := finds1_11 V c t _ (hY 11)
  have e12 := finds1_12 V c t _ (hY 12)
  have e13 := finds1_13 V c t _ (hY 13)
  have e14 := finds1_14 V c t _ (hY 14)
  have e15 := finds1_15 V c t _ (hY 15)
  have e16 := finds1_16 V c t _ (hY 16)
  have e17 := finds1_17 V c t _ (hY 17)
  rw [e0, e1, e2, e3, e4, e5, e6, e7, e8, e9, e10, e11, e12, e13, e14, e15, e16, e17]
  rw [show (rdat1 V c).owesAt () t.succ = (rdat1 V c).owesAt () t.castSucc from rfl]
  rw [show (rdat1 V c).Φ t.succ = Pipeline.scopedRest (Ix := Unit) (Name := ℕ) (U := UR sig nD τ) (Lvl := ℕ) (Val := Elt F) spec1 c from rfl,
    show (rdat1 V c).Φ t.castSucc = Pipeline.scopedRest (Ix := Unit) (Name := ℕ) (U := UR sig nD τ) (Lvl := ℕ) (Val := Elt F) spec1 c from rfl, scoped_eq1]
  unfold bodyAt1
  generalize Y 18 = y18
  generalize Y 19 = y19
  generalize Y 20 = y20
  generalize Y 21 = y21
  iintro ⟨⟨⟨HS0, HS1, HS2, HS3, HS4, HS5⟩, HR⟩, Ho, H0, H1, H2, H3, H4, H5, H6, H7, H8, H9, H10, H11, H12, H13, H14, H15, H16, H17, H18, H19, H20, H21⟩
  iapply (run_2 c _ _ _ _ _ _ _ _ _ _ _ _ _ _ _ _ _ _ _ _ _ _ _ _ _ _ _ _ _ _ _ _ _ _ _ _ _ _ _ _ _ _ _ _ _ _ _ _ _ _ _ _ _ _ _ _ (jblk V c 0 t) (jblk V c 1 t) (jblk V c 2 t) (jblk V c 3 t) (jblk V c 4 t) (jblk V c 5 t) (jblk V c 6 t) (jblk V c 7 t) (jblk V c 8 t) (jblk V c 9 t) (jblk V c 10 t) (jblk V c 11 t) (jblk V c 12 t) (jblk V c 13 t) (jblk V c 14 t) (jblk V c 15 t) (jblk V c 16 t) (jblk V c 17 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, H15, H16, H17, H18, H19, H20, H21, HS0, HS1, HS2, HS3, HS4, HS5⟩
  isplitl [HS0 HS1 HS2 HS3 HS4 HS5 HR]
  · isplitr [HR]
    · isplitl [HS0]; · iexact HS0
      isplitl [HS1]; · iexact HS1
      isplitl [HS2]; · iexact HS2
      isplitl [HS3]; · iexact HS3
      isplitl [HS4]; · iexact HS4
      iexact HS5
    iexact HR
  isplitl [Ho]; · iexact Ho
  isplitl [H0]
  · iexists _
    isplitr; swap; · iexact H0
    ipureintro
    exact leaves1_0 V c t _
  isplitl [H1]
  · iexists _
    isplitr; swap; · iexact H1
    ipureintro
    exact leaves1_1 V c t _
  isplitl [H2]
  · iexists _
    isplitr; swap; · iexact H2
    ipureintro
    exact leaves1_2 V c t _
  isplitl [H3]
  · iexists _
    isplitr; swap; · iexact H3
    ipureintro
    exact leaves1_3 V c t _
  isplitl [H4]
  · iexists _
    isplitr; swap; · iexact H4
    ipureintro
    exact leaves1_4 V c t _
  isplitl [H5]
  · iexists _
    isplitr; swap; · iexact H5
    ipureintro
    exact leaves1_5 V c t _
  isplitl [H6]
  · iexists _
    isplitr; swap; · iexact H6
    ipureintro
    exact leaves1_6 V c t _
  isplitl [H7]
  · iexists _
    isplitr; swap; · iexact H7
    ipureintro
    exact leaves1_7 V c t _
  isplitl [H8]
  · iexists _
    isplitr; swap; · iexact H8
    ipureintro
    exact leaves1_8 V c t _
  isplitl [H9]
  · iexists _
    isplitr; swap; · iexact H9
    ipureintro
    exact leaves1_9 V c t _
  isplitl [H10]
  · iexists _
    isplitr; swap; · iexact H10
    ipureintro
    exact leaves1_10 V c t _
  isplitl [H11]
  · iexists _
    isplitr; swap; · iexact H11
    ipureintro
    exact leaves1_11 V c t _
  isplitl [H12]
  · iexists _
    isplitr; swap; · iexact H12
    ipureintro
    exact leaves1_12 V c t _
  isplitl [H13]
  · iexists _
    isplitr; swap; · iexact H13
    ipureintro
    exact leaves1_13 V c t _
  isplitl [H14]
  · iexists _
    isplitr; swap; · iexact H14
    ipureintro
    exact leaves1_14 V c t _
  isplitl [H15]
  · iexists _
    isplitr; swap; · iexact H15
    ipureintro
    exact leaves1_15 V c t _
  isplitl [H16]
  · iexists _
    isplitr; swap; · iexact H16
    ipureintro
    exact leaves1_16 V c t _
  isplitl [H17]
  · iexists _
    isplitr; swap; · iexact H17
    ipureintro
    exact leaves1_17 V c t _
  isplitl [H18]
  · iexists _
    isplitr; swap; · iexact H18
    ipureintro
    exact leaves1_18 V c t _
  isplitl [H19]
  · iexists _
    isplitr; swap; · iexact H19
    ipureintro
    exact leaves1_19 V c t _
  isplitl [H20]
  · iexists _
    isplitr; swap; · iexact H20
    ipureintro
    exact leaves1_20 V c t _
  iexists _
  isplitr; swap; · iexact H21
  ipureintro
  exact leaves1_21 V c t _

/-- What the region's entry hands the stage is the invariant. -/
theorem hin1 (c : Dev nD) : Pipeline.scopedRest (Ix := Unit) (Name := ℕ) (U := UR sig nD τ) (Lvl := ℕ) (Val := Elt F) spec1 c ⊢ (rdat1 V c).Φ 0 := .rfl
/-- The invariant gives the scoped buffers back. -/
theorem hout1 (c : Dev nD) : (rdat1 V c).Φ (Fin.last cfg1.N) ⊢ Pipeline.scopedRest (Ix := Unit) (Name := ℕ) (U := UR sig nD τ) (Lvl := ℕ) (Val := Elt F) spec1 c := .rfl

end Cert.KernelIdeal.Hand
-- ==== Proof.Run.lean ====
module

public import proofs.«01_k».proof.Proof.Region
public import proofs.«01_k».proof.Proof.Stage1Arr
public import proofs.«01_k».proof.Proof.Stage2Dat

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR sig nD τ) ℕ

variable (m : (ℓ : Loc nD τ sig) → Buf (Elt F) ℓ)

/-- What the first stage leaves in its two result arrays. -/
def outsA : Outs (F := F) := fun j r c =>
  Function.update (Function.update (V1 m c) main_v3_0 (G7 (V1 m) c)) main_v3_1 (G8 (V1 m) c) (Proc.devRef .tc r)
/-- The unscoped buffers the second stage starts from. -/
abbrev VB (c : Dev nD) : Valuation τ sig (Elt F) := V3 m (outsA m) c
/-- What the second stage leaves in its four result arrays. -/
def outsB : Outs (F := F) := fun j r c =>
  Function.update (Function.update (Function.update (Function.update (V1 m c)
    main_v17_0 ((dat1 (VB m) c).arrAt 18 cfg1.N)) main_v17_1 ((dat1 (VB m) c).arrAt 19 cfg1.N))
    main_v17_2 ((dat1 (VB m) c).arrAt 20 cfg1.N)) main_v17_3 ((dat1 (VB m) c).arrAt 21 cfg1.N) (Proc.devRef .tc r)
/-- What the two stages leave. -/
def outs : Outs (F := F) := fun j => if j = 2 then outsA m 2 else outsB m 4

theorem V3_outs (c : Dev nD) : V3 m (outs m) c = VB m c := rfl

/-- The two stages' proof data. -/
def rdats (p : Fin 2) (c : Dev nD) : RDat τ (Elt F) Unit ℕ (UR sig nD τ) ℕ (cfgs p) c := match p with
  | ⟨0, _⟩ => rdat0 (V1 m) c
  | ⟨1, _⟩ => rdat1 (VB m) c

theorem in0 (c : Dev nD) (w : Fin cfg0.W) (hin : (cfg0.win w).isOut = false)
    (hr : Pipeline.arrRef spec0 w ∉ ([main_v3_0, main_v3_1] : List (Ref sig .tc))) (G) (hG : (rdat0 (V1 m) c).ArrAt w cfg0.N G) :
    G = V2 m (outs m) c (Proc.devRef .tc (Pipeline.arrRef spec0 w)) := by
  rw [RDat.ArrAt_in _ w hin] at hG
  exact (show G = (rdat0 (V1 m) c).A w from hG).trans (V2_of m (outs m) c _ hr).symm
theorem in1 (c : Dev nD) (w : Fin cfg1.W) (hin : (cfg1.win w).isOut = false)
    (hr : Pipeline.arrRef spec1 w ∉ ([main_v17_0, main_v17_1, main_v17_2, main_v17_3] : List (Ref sig .tc))) (G) (hG : (rdat1 (VB m) c).ArrAt w cfg1.N G) :
    G = V4 m (outs m) c (Proc.devRef .tc (Pipeline.arrRef spec1 w)) := by
  rw [RDat.ArrAt_in _ w hin] at hG
  exact (show G = (rdat1 (VB m) c).A w from hG).trans (V4_of m (outs m) c _ hr).symm

theorem V2_v3_0 (c : Dev nD) : V2 m (outs m) c main_v3_0 = G7 (V1 m) c := by
  unfold V2
  rw [Function.update_of_ne (StableHlo.devRef_ne_of_ne (by decide)), Function.update_self]
  show Function.update (Function.update (V1 m c) main_v3_0 (G7 (V1 m) c)) main_v3_1 (G8 (V1 m) c) (Proc.devRef .tc main_v3_0) = _
  rw [Function.update_of_ne (StableHlo.devRef_ne_of_ne (by decide)), Function.update_self]
theorem V2_v3_1 (c : Dev nD) : V2 m (outs m) c main_v3_1 = G8 (V1 m) c := by
  unfold V2
  rw [Function.update_self]
  show Function.update (Function.update (V1 m c) main_v3_0 (G7 (V1 m) c)) main_v3_1 (G8 (V1 m) c) (Proc.devRef .tc main_v3_1) = _
  rw [Function.update_self]
theorem V4_v17_0 (c : Dev nD) : V4 m (outs m) c main_v17_0 = (dat1 (VB m) c).arrAt 18 cfg1.N := by
  unfold V4
  rw [Function.update_of_ne (StableHlo.devRef_ne_of_ne (by decide)), Function.update_of_ne (StableHlo.devRef_ne_of_ne (by decide)), Function.update_of_ne (StableHlo.devRef_ne_of_ne (by decide)), Function.update_self]
  show Function.update (Function.update (Function.update (Function.update (V1 m c)
    main_v17_0 ((dat1 (VB m) c).arrAt 18 cfg1.N)) main_v17_1 ((dat1 (VB m) c).arrAt 19 cfg1.N))
    main_v17_2 ((dat1 (VB m) c).arrAt 20 cfg1.N)) main_v17_3 ((dat1 (VB m) c).arrAt 21 cfg1.N) (Proc.devRef .tc main_v17_0) = _
  rw [Function.update_of_ne (StableHlo.devRef_ne_of_ne (by decide)), Function.update_of_ne (StableHlo.devRef_ne_of_ne (by decide)), Function.update_of_ne (StableHlo.devRef_ne_of_ne (by decide)), Function.update_self]
theorem V4_v17_1 (c : Dev nD) : V4 m (outs m) c main_v17_1 = (dat1 (VB m) c).arrAt 19 cfg1.N := by
  unfold V4
  rw [Function.update_of_ne (StableHlo.devRef_ne_of_ne (by decide)), Function.update_of_ne (StableHlo.devRef_ne_of_ne (by decide)), Function.update_self]
  show Function.update (Function.update (Function.update (Function.update (V1 m c)
    main_v17_0 ((dat1 (VB m) c).arrAt 18 cfg1.N)) main_v17_1 ((dat1 (VB m) c).arrAt 19 cfg1.N))
    main_v17_2 ((dat1 (VB m) c).arrAt 20 cfg1.N)) main_v17_3 ((dat1 (VB m) c).arrAt 21 cfg1.N) (Proc.devRef .tc main_v17_1) = _
  rw [Function.update_of_ne (StableHlo.devRef_ne_of_ne (by decide)), Function.update_of_ne (StableHlo.devRef_ne_of_ne (by decide)), Function.update_self]
theorem V4_v17_2 (c : Dev nD) : V4 m (outs m) c main_v17_2 = (dat1 (VB m) c).arrAt 20 cfg1.N := by
  unfold V4
  rw [Function.update_of_ne (StableHlo.devRef_ne_of_ne (by decide)), Function.update_self]
  show Function.update (Function.update (Function.update (Function.update (V1 m c)
    main_v17_0 ((dat1 (VB m) c).arrAt 18 cfg1.N)) main_v17_1 ((dat1 (VB m) c).arrAt 19 cfg1.N))
    main_v17_2 ((dat1 (VB m) c).arrAt 20 cfg1.N)) main_v17_3 ((dat1 (VB m) c).arrAt 21 cfg1.N) (Proc.devRef .tc main_v17_2) = _
  rw [Function.update_of_ne (StableHlo.devRef_ne_of_ne (by decide)), Function.update_self]
theorem V4_v17_3 (c : Dev nD) : V4 m (outs m) c main_v17_3 = (dat1 (VB m) c).arrAt 21 cfg1.N := by
  unfold V4
  rw [Function.update_self]
  show Function.update (Function.update (Function.update (Function.update (V1 m c)
    main_v17_0 ((dat1 (VB m) c).arrAt 18 cfg1.N)) main_v17_1 ((dat1 (VB m) c).arrAt 19 cfg1.N))
    main_v17_2 ((dat1 (VB m) c).arrAt 20 cfg1.N)) main_v17_3 ((dat1 (VB m) c).arrAt 21 cfg1.N) (Proc.devRef .tc main_v17_3) = _
  rw [Function.update_self]

theorem kind0 : ∀ w : Fin cfg0.W, ((cfg0.win w).isOut = false ∧ Pipeline.arrRef spec0 w ∉ ([main_v3_0, main_v3_1] : List (Ref sig .tc))) ∨ w = 7 ∨ w = 8 := by
  decide
theorem kind1 : ∀ w : Fin cfg1.W, ((cfg1.win w).isOut = false ∧ Pipeline.arrRef spec1 w ∉ ([main_v17_0, main_v17_1, main_v17_2, main_v17_3] : List (Ref sig .tc)))
    ∨ w = 18 ∨ w = 19 ∨ w = 20 ∨ w = 21 := by
  decide
/-- What the first stage's arrays end at. -/
theorem exit0 (c : Dev nD) (w : Fin cfg0.W) (G) (hG : (rdat0 (V1 m) c).ArrAt w cfg0.N G) :
    G = V2 m (outs m) c (Proc.devRef .tc (Pipeline.arrRef spec0 w)) := by
  rcases kind0 w with ⟨h, h'⟩ | rfl | rfl
  · exact in0 m c w h h' G hG
  · exact (arr7 (V1 m) c G hG).trans (V2_v3_0 m c).symm
  · exact (arr8 (V1 m) c G hG).trans (V2_v3_1 m c).symm
/-- What the second stage's arrays end at. -/
theorem exit1 (c : Dev nD) (w : Fin cfg1.W) (G) (hG : (rdat1 (VB m) c).ArrAt w cfg1.N G) :
    G = V4 m (outs m) c (Proc.devRef .tc (Pipeline.arrRef spec1 w)) := by
  rcases kind1 w with ⟨h, h'⟩ | rfl | rfl | rfl | rfl
  · exact in1 m c w h h' G hG
  · exact ((Dat.toR_arrAt_iff (dat1 (VB m) c) 18 cfg1.N G).mp hG).trans (V4_v17_0 m c).symm
  · exact ((Dat.toR_arrAt_iff (dat1 (VB m) c) 19 cfg1.N G).mp hG).trans (V4_v17_1 m c).symm
  · exact ((Dat.toR_arrAt_iff (dat1 (VB m) c) 20 cfg1.N G).mp hG).trans (V4_v17_2 m c).symm
  · exact ((Dat.toR_arrAt_iff (dat1 (VB m) c) 21 cfg1.N G).mp hG).trans (V4_v17_3 m c).symm

theorem unscoped0 (w : Fin cfg0.W) : (Pipeline.arrRef spec0 w).isScoped = false := by revert w; decide
theorem unscoped1 (w : Fin cfg1.W) : (Pipeline.arrRef spec1 w).isScoped = false := by revert w; decide

/-- The first stage as a segment of the program. -/
def reg0 := region (rdats m) 0 launch0 unscoped0 (body0 (V1 m)) (fun _ _ => rfl) (fun _ => rfl) (fun _ _ => rfl) (hin0 (V1 m)) (hout0 (V1 m))
  (V1 m) (V2 m (outs m)) (fun _ _ => rfl) (exit0 m)
  (fun c b _ hb => by
    have h : ∀ w : Fin cfg0.W, b ≠ Proc.devRef .tc (Pipeline.arrRef spec0 w) := fun w h => hb (by
      rw [h]; exact Finset.mem_map.mpr ⟨_, Finset.mem_image.mpr ⟨w, Finset.mem_univ _, rfl⟩, rfl⟩)
    unfold V2
    rw [Function.update_of_ne (h 8), Function.update_of_ne (h 7)])
/-- The second stage as a segment of the program. -/
def reg1 := region (rdats m) 1 launch1 unscoped1 (body1 (VB m)) (fun _ _ => rfl) (fun _ => rfl) (fun _ _ => rfl) (hin1 (VB m)) (hout1 (VB m))
  (VB m) (V4 m (outs m)) (fun _ _ => rfl) (exit1 m)
  (fun c b _ hb => by
    have h : ∀ w : Fin cfg1.W, b ≠ Proc.devRef .tc (Pipeline.arrRef spec1 w) := fun w h => hb (by
      rw [h]; exact Finset.mem_map.mpr ⟨_, Finset.mem_image.mpr ⟨w, Finset.mem_univ _, rfl⟩, rfl⟩)
    unfold V4
    rw [Function.update_of_ne (h 21), Function.update_of_ne (h 20), Function.update_of_ne (h 19), Function.update_of_ne (h 18)]
    rfl)

/-- The program's five segments. -/
abbrev parts (c : Dev nD) : List (Pipeline.RDat.Seg (pcfgs (F := F)) adm (rdats m) () defs₀ Variants.none lvls (fun _ _ => (0 : ℕ))) :=
  [.host (seg0 m Variants.none lvls (fun _ _ => 0) fun _ c => idle c), .region (reg0 m),
   .host (seg2 m (outs m) Variants.none lvls (fun _ _ => 0) fun _ c => idle c), .region (reg1 m),
   .host (seg4 m (outs m) Variants.none lvls (fun _ _ => 0) fun _ c => idle c)]

set_option backward.isDefEq.respectTransparency.types false in
/-- Every run ends, with every unscoped buffer at its last valuation and every counter at zero. -/
theorem run_all (ρ : Dev nD → PrngReg) :
    θ_run defs (onTc (τ := τ) (main (F := F))) ⟨m, fun _ => 0, ρ⟩ (fun r => (∀ c : Dev nD,
      ∀ b : Ref sig .tc, b.isScoped = false → r.2.mem ((c.tc : Thread nD τ).loc b) = V5 m (outs m) c (Proc.devRef .tc b)) ∧ r.2.sem = fun _ => 0) := by
  refine Pipeline.RDat.θ_run_regions_kit_dev_sems (pcfgs (F := F)) adm (rdats m) () cellOf_inj (emb₁ : Emb (URounds (GSem nD τ sig) Unit) 𝕄) defs₀ Variants.none lvls (fun _ _ => (0 : ℕ)) m ρ main
    (parts m)
    (fun c Q => by
      rewrite [main_chain c, Pipeline.RDat.Seg.run_eq_chain,
        show (parts m c).map Pipeline.RDat.Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [parts, Pipeline.RDat.Seg.pipes_host, Pipeline.RDat.Seg.pipes_region, Pipeline.RDat.Seg.pipes_nil]; decide) (fun _ => 0)
    (fun g h => if_neg h) (fun _ => BI.emp) (initOf (Pipeline.cells cfgs cellOf_inj) (Pipeline.launchToks cfgs cellOf_inj)) ?_
    (T₀ := fun c => iprop(heldAll c (V0 m c) ∗ idle c))
    (Tₙ := fun c => heldAll c (V5 m (outs m) c))
    (hch := fun c => ⟨.rfl, .rfl, .rfl, .rfl, .rfl, .rfl⟩)
    (hinit := ?_) (QY := fun c s => ∀ b : Ref sig .tc, b.isScoped = false → s.mem ((c.tc : Thread nD τ).loc b) = V5 m (outs m) c (Proc.devRef .tc b))
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own (emb₁ (initOf (Pipeline.cells cfgs cellOf_inj) (Pipeline.launchToks cfgs cellOf_inj))) from .rfl); iexact Hu
    · iapply (show (BI.emp : sProp 𝕄) ⊢ bigSep Finset.univ (fun _ : Dev nD => BI.emp) from by rw [BI.bigSep_emp_const])
      iempintro
  · have hstep : ∀ c : Dev nD, iprop(unscopedBufs c (fun b => m ((c.tc : Thread nD τ).loc b)) ∗ unscopedSems0 c
          ∗ owes (c.tc : Thread nD τ) 0 ∅ ∗ Pipeline.launchCred (fun _ => 0) c ∗ prngReg c (ρ c) ∗ BI.emp)
        ⊢ (iprop(heldAll c (V0 m c) ∗ idle c) : sProp 𝕄) := fun c => by
      iintro ⟨Hb, -, HO, -⟩
      isplitl [Hb]
      · iapply (Entails.of_eq (Pipeline.unscopedBufs_held (Ix := Unit) (Name := ℕ) (U := UR sig nD τ) (Lvl := ℕ) c (V0 m c))); iexact Hb
      iexists ∅
      iexact HO
    have hall : (bigSep Finset.univ fun c : Dev nD => iprop(unscopedBufs c (fun b => m ((c.tc : Thread nD τ).loc b)) ∗ unscopedSems0 c
          ∗ owes (c.tc : Thread nD τ) 0 ∅ ∗ Pipeline.launchCred (fun _ => 0) c ∗ prngReg c (ρ c) ∗ BI.emp))
        ⊢ (bigSep Finset.univ fun c : Dev nD => iprop(heldAll c (V0 m c) ∗ idle c) : sProp 𝕄) := bigSep_mono fun c _ => hstep c
    iintro ⟨H, -⟩
    imodintro
    iapply hall
    iexact H
  · unfold heldAll StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, fun h' => Bool.false_ne_true (hb.symm.trans h')⟩)
    · iexact HSI
end Cert.KernelIdeal.Hand
-- ==== Proof.Frames.lean ====
module

public import proofs.«01_k».proof.Proof.Run

@[expose] public section

noncomputable section

namespace Cert.KernelIdeal.Hand

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ) (ρ : Dev nD → PrngReg)

/-- Every run ends with the arguments as launched, the results at the last valuation, and every counter at zero. -/
theorem run_results : θ_run defs (onTc (τ := τ) (main (F := F))) ⟨m, fun _ => 0, ρ⟩ (fun r => (∀ c : Dev nD,
      (∀ b : Ref sig .tc, b.isScoped = false → r.2.mem ((c.tc : Thread nD τ).loc b) = V5 m (outs m) c (Proc.devRef .tc b))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24))
      ∧ r.2.sem = fun _ => 0) :=
  θ_run_mono (run_all m ρ) fun r h => ⟨fun c => ⟨h.1 c,
    (h.1 c main_arg0 rfl).trans (V5_main_arg0 m (outs m) c),
    (h.1 c main_arg1 rfl).trans (V5_main_arg1 m (outs m) c),
    (h.1 c main_arg2 rfl).trans (V5_main_arg2 m (outs m) c),
    (h.1 c main_arg3 rfl).trans (V5_main_arg3 m (outs m) c),
    (h.1 c main_arg4 rfl).trans (V5_main_arg4 m (outs m) c),
    (h.1 c main_arg5 rfl).trans (V5_main_arg5 m (outs m) c),
    (h.1 c main_arg6 rfl).trans (V5_main_arg6 m (outs m) c),
    (h.1 c main_arg7 rfl).trans (V5_main_arg7 m (outs m) c),
    (h.1 c main_arg8 rfl).trans (V5_main_arg8 m (outs m) c),
    (h.1 c main_arg9 rfl).trans (V5_main_arg9 m (outs m) c),
    (h.1 c main_arg10 rfl).trans (V5_main_arg10 m (outs m) c),
    (h.1 c main_arg11 rfl).trans (V5_main_arg11 m (outs m) c),
    (h.1 c main_arg12 rfl).trans (V5_main_arg12 m (outs m) c),
    (h.1 c main_arg13 rfl).trans (V5_main_arg13 m (outs m) c),
    (h.1 c main_arg14 rfl).trans (V5_main_arg14 m (outs m) c),
    (h.1 c main_arg15 rfl).trans (V5_main_arg15 m (outs m) c),
    (h.1 c main_arg16 rfl).trans (V5_main_arg16 m (outs m) c),
    (h.1 c main_arg17 rfl).trans (V5_main_arg17 m (outs m) c),
    (h.1 c main_arg18 rfl).trans (V5_main_arg18 m (outs m) c),
    (h.1 c main_arg19 rfl).trans (V5_main_arg19 m (outs m) c),
    (h.1 c main_arg20 rfl).trans (V5_main_arg20 m (outs m) c),
    (h.1 c main_arg21 rfl).trans (V5_main_arg21 m (outs m) c),
    (h.1 c main_arg22 rfl).trans (V5_main_arg22 m (outs m) c),
    (h.1 c main_arg23 rfl).trans (V5_main_arg23 m (outs m) c),
    (h.1 c main_arg24 rfl).trans (V5_main_arg24 m (outs m) c)⟩, h.2⟩
/-- The frame: every run ends, the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24))
      ∧ r.2.sem = fun _ => 0) :=
  θ_run_mono (run_results m ρ) fun r h => ⟨fun c => (h.1 c).2, h.2⟩
end Cert.KernelIdeal.Hand
-- ==== Proof.FrameBits.lean ====
module

public import proofs.«01_k».proof.Proof.Gen.Kernel.Launch
public import proofs.«01_k».proof.Proof.Frames
public import Idealize.ShloMosaic.Lib.Tactic

@[expose] public section

noncomputable section

namespace Cert.KernelIdeal.Hand
open Cert.KernelIdeal Cert.KernelIdeal.Gen
open Idealize.ShloMosaic Idealize.ShloMosaic.TcCoe Idealize.SL.Sem

/-- The frame of the idealized program. -/
def Framed (F : FTy → Type) [FloatOps F] : Prop := ∀ (m : (ℓ : Loc nD τ sig) → Buf (Elt F) ℓ) (ρ : Dev nD → PrngReg),
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24))
      ∧ r.2.sem = fun _ => 0)

end Cert.KernelIdeal.Hand

namespace Cert.Kernel.Hand

open Cert.Kernel Cert.Kernel.Gen
open Idealize.ShloMosaic Idealize.ShloMosaic.TcCoe Idealize.ShloMosaic.Tactic Idealize.SL.Sem

/-- The frame of the kernel as written. -/
def Framed (F : FTy → Type) [FloatOps F] : Prop := ∀ (m : (ℓ : Loc nD τ sig) → Buf (Elt F) ℓ) (ρ : Dev nD → PrngReg),
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24))
      ∧ r.2.sem = fun _ => 0)

variable {F : FTy → Type} [FloatOps F]

set_option maxHeartbeats 4000000 in
/-- The two printed programs are the same, and so are their frames. -/
theorem framed_eq : Cert.KernelIdeal.Hand.Framed F = Framed F := by sl_kernel_rfl
theorem framed : Framed F := by
  rw [← framed_eq]
  exact fun m ρ => Cert.KernelIdeal.Hand.frame m ρ
end Cert.Kernel.Hand
-- ==== Proof.VMath.lean ====
module

public import Idealize.ShloMosaic.Lib.Pointwise

@[expose] public section

noncomputable section

namespace Cert.Value

open Idealize.ShloMosaic

/-! ### The mathematics of the two attention layers, over extended reals -/

/-- A row through a linear layer and the positive part. -/
def hid (x : Fin 1024 → EReal) (w : Fin 1024 → Fin 1024 → EReal) (j : Fin 1024) : EReal := max (∑ k, x k * w j k) 0
/-- One unit of the gated attention. -/
def gate (h : Fin 1024 → EReal) (vw : Fin 128 → Fin 1024 → EReal) (vb : Fin 128 → EReal) (uw : Fin 128 → Fin 1024 → EReal) (ub : Fin 128 → EReal)
    (d : Fin 128) : EReal :=
  Ideal.tanh (∑ j, h j * vw d j + vb d) * Ideal.logistic (∑ j, h j * uw d j + ub d)
/-- The score of a row. -/
def score (h : Fin 1024 → EReal) (vw : Fin 128 → Fin 1024 → EReal) (vb : Fin 128 → EReal) (uw : Fin 128 → Fin 1024 → EReal) (ub : Fin 128 → EReal)
    (a : Fin 128 → EReal) (b : EReal) : EReal :=
  ∑ d, a d * gate h vw vb uw ub d + b
/-- The greatest of finitely many scores. -/
def mx {n : ℕ} (l : Fin n → EReal) : EReal := Finset.univ.sup l
/-- The exponential of a score less the greatest one. -/
def ez {n : ℕ} (l : Fin n → EReal) (q : Fin n) : EReal := Ideal.exp (l q - mx l)
/-- The softmax. -/
def soft {n : ℕ} (l : Fin n → EReal) (q : Fin n) : EReal := Ideal.div (ez l q) (∑ q, ez l q)
/-- The average of entries `x` by the softmax of the scores `l`. -/
def pool {n : ℕ} (l x : Fin n → EReal) : EReal := ∑ q, soft l q * x q

/-- The attention of the four slots over the batches' features. -/
def attend (f : Fin 4 → Fin 1024 → EReal) (w : Fin 1024 → Fin 1024 → EReal) (vw : Fin 128 → Fin 1024 → EReal) (vb : Fin 128 → EReal)
    (uw : Fin 128 → Fin 1024 → EReal) (ub : Fin 128 → EReal) (a : Fin 4 → Fin 128 → EReal) (b : Fin 4 → EReal) (t : Fin 4) : Fin 4 → EReal :=
  soft fun i => score (hid (f i) w) vw vb uw ub (a t) (b t)
/-- The classifiers of the four slots. -/
def heads (A : Fin 4 → Fin 4 → EReal) (f : Fin 4 → Fin 1024 → EReal) (w : Fin 1024 → EReal) (b : EReal) (t : Fin 4) : EReal :=
  ∑ d, (∑ i, A t i * f i d) * w d + b
/-- The attention of the last two slots, then of the first two, averaged. -/
def mixed (A : Fin 4 → Fin 4 → EReal) (i : Fin 2) (b : Fin 4) : EReal :=
  if i.val < 1 then ((1 / 2 : ℝ) : EReal) * A 2 b + ((1 / 2 : ℝ) : EReal) * A 3 b else ((1 / 2 : ℝ) : EReal) * A 0 b + ((1 / 2 : ℝ) : EReal) * A 1 b
/-- The two bags' features. -/
def bags (A : Fin 4 → Fin 4 → EReal) (f : Fin 4 → Fin 1024 → EReal) (i : Fin 2) (d : Fin 1024) : EReal := ∑ b, mixed A i b * f b d
/-- The slide's prediction from the two bags. -/
def slide (g : Fin 2 → Fin 1024 → EReal) (vw : Fin 128 → Fin 1024 → EReal) (vb : Fin 128 → EReal) (uw : Fin 128 → Fin 1024 → EReal) (ub : Fin 128 → EReal)
    (a : Fin 128 → EReal) (b : EReal) (w : Fin 1024 → EReal) (b' : EReal) : EReal :=
  ∑ d, (∑ i, soft (fun i => score (g i) vw vb uw ub a b) i * g i d) * w d + b'

theorem fold_max {ι : Type*} (S : Finset ι) (l : ι → EReal) : S.fold max (Ideal.ofBits .f32 0xFF800000#32) l = S.sup l := by
  rw [show Ideal.ofBits .f32 0xFF800000#32 = (⊥ : EReal) by simp [Ideal.ofBits, Ideal.ieee]]
  rfl

/-! ### Infinite values -/

/-- Neither infinity. -/
def Fin' (x : EReal) : Prop := x ≠ ⊤ ∧ x ≠ ⊥
theorem fin_iff (x : EReal) : Fin' x ↔ ∃ r : ℝ, x = (r : EReal) := by
  constructor
  · rintro ⟨h1, h2⟩
    exact ⟨x.toReal, (EReal.coe_toReal h1 h2).symm⟩
  · rintro ⟨r, rfl⟩
    exact ⟨EReal.coe_ne_top r, EReal.coe_ne_bot r⟩
theorem fin_of_sub (x : EReal) (h : x - x = 0) : Fin' x := by
  refine ⟨?_, ?_⟩ <;> rintro rfl <;> simp at h
theorem sub_self_of_fin (x : EReal) (h : Fin' x) : x - x = 0 := EReal.sub_self h.1 h.2
theorem fin_add {x y : EReal} (hx : Fin' x) (hy : Fin' y) : Fin' (x + y) := by
  obtain ⟨r, rfl⟩ := (fin_iff x).mp hx
  obtain ⟨s, rfl⟩ := (fin_iff y).mp hy
  exact (fin_iff _).mpr ⟨r + s, by push_cast; rfl⟩
theorem fin_mul {x y : EReal} (hx : Fin' x) (hy : Fin' y) : Fin' (x * y) := by
  obtain ⟨r, rfl⟩ := (fin_iff x).mp hx
  obtain ⟨s, rfl⟩ := (fin_iff y).mp hy
  exact (fin_iff _).mpr ⟨r * s, by push_cast; rfl⟩
theorem fin_sum {ι : Type*} (S : Finset ι) (f : ι → EReal) (h : ∀ i, Fin' (f i)) : Fin' (∑ i ∈ S, f i) := by
  induction S using Finset.cons_induction with
  | empty => exact (fin_iff _).mpr ⟨0, by simp⟩
  | cons a s ha ih => rw [Finset.sum_cons]; exact fin_add (h a) ih
theorem fin_tanh (x : EReal) : Fin' (Ideal.tanh x) := by
  induction x with
  | bot => exact (fin_iff _).mpr ⟨-1, by simp⟩
  | top => exact (fin_iff _).mpr ⟨1, by simp⟩
  | coe r => exact (fin_iff _).mpr ⟨_, Ideal.tanh_coe (r := r)⟩
theorem fin_logistic (x : EReal) : Fin' (Ideal.logistic x) := by
  induction x with
  | bot => exact (fin_iff _).mpr ⟨0, by simp⟩
  | top => exact (fin_iff _).mpr ⟨1, by simp⟩
  | coe r => exact (fin_iff _).mpr ⟨_, Ideal.logistic_coe (r := r)⟩
/-- A score is finite when its weights and its bias are. -/
theorem fin_score (h : Fin 1024 → EReal) (vw vb uw ub) (a : Fin 128 → EReal) (b : EReal) (ha : ∀ d, Fin' (a d)) (hb : Fin' b) :
    Fin' (score h vw vb uw ub a b) :=
  fin_add (fin_sum _ _ fun d => fin_mul (ha d) (fin_mul (fin_tanh _) (fin_logistic _))) hb

/-! ### The running softmax -/

theorem exp_nonneg (x : EReal) : 0 ≤ Ideal.exp x := by
  induction x with
  | bot => simp
  | top => simp
  | coe r => simp only [Ideal.exp_coe]; exact_mod_cast (Real.exp_pos r).le
theorem exp_ne_top (x : EReal) (h : x ≠ ⊤) : Ideal.exp x ≠ ⊤ := by
  induction x with
  | bot => simp
  | top => exact absurd rfl h
  | coe r => simp only [Ideal.exp_coe]; exact EReal.coe_ne_top _
theorem sub_ne_top (a b : EReal) (h : a ≤ b) : a - b ≠ ⊤ := by
  induction b with
  | bot => rw [le_bot_iff.mp h]; simp
  | top => simp
  | coe r =>
    induction a with
    | bot => simp
    | top => exact absurd h (by simp)
    | coe s => rw [← EReal.coe_sub]; exact EReal.coe_ne_top _
/-- Moving an exponential from one maximum to a greater one. -/
theorem exp_shift (l m m' : EReal) (h : l ≤ m) (h' : m ≤ m') : Ideal.exp (l - m) * Ideal.exp (m - m') = Ideal.exp (l - m') := by
  induction m' with
  | bot =>
    obtain rfl := le_bot_iff.mp h'
    obtain rfl := le_bot_iff.mp h
    simp
  | top => simp
  | coe r' =>
    induction m with
    | bot =>
      obtain rfl := le_bot_iff.mp h
      simp
    | top => exact absurd h' (by simp)
    | coe r =>
      induction l with
      | bot => simp
      | top => exact absurd h (by simp)
      | coe s =>
        rw [← EReal.coe_sub, ← EReal.coe_sub, ← EReal.coe_sub, Ideal.exp_coe, Ideal.exp_coe, Ideal.exp_coe, ← EReal.coe_mul, ← Real.exp_add]
        congr 2
        ring
theorem sum_mul {ι : Type*} (S : Finset ι) (f : ι → EReal) (c : EReal) (h0 : 0 ≤ c) (h1 : c ≠ ⊤) : (∑ i ∈ S, f i) * c = ∑ i ∈ S, f i * c := by
  induction S using Finset.cons_induction with
  | empty => simp
  | cons a s ha ih => rw [Finset.sum_cons, Finset.sum_cons, EReal.right_distrib_of_nonneg_of_ne_top h0 h1, ih]

theorem coe_sum' {ι : Type*} (S : Finset ι) (f : ι → ℝ) : ((∑ i ∈ S, f i : ℝ) : EReal) = ∑ i ∈ S, (f i : EReal) := by
  induction S using Finset.cons_induction with
  | empty => simp
  | cons a s ha ih => rw [Finset.sum_cons, Finset.sum_cons, EReal.coe_add, ih]

/-- The running state over a set of rows: the greatest score, the sum of exponentials, and the weighted sum of entries. -/
structure Run {ι : Type*} (S : Finset ι) (l : ι → EReal) (m s : EReal) : Prop where
  top : m = S.sup l
  sum : s = ∑ q ∈ S, Ideal.exp (l q - m)
/-- The running weighted sum over a set of rows. -/
def Avg {ι : Type*} (S : Finset ι) (l x : ι → EReal) (m a : EReal) : Prop := a = ∑ q ∈ S, Ideal.exp (l q - m) * x q

section Step

variable {ι κ : Type*} [DecidableEq ι] [Fintype κ] {S : Finset ι} {l : ι → EReal} {m s : EReal} (e : κ ↪ ι)

theorem sup_map' (l : ι → EReal) : (Finset.univ.map e).sup l = Finset.univ.sup fun k => l (e k) := Finset.sup_map _ _ _

/-- One more block of rows. -/
theorem Run.step (h : Run S l m s) (hd : Disjoint S (Finset.univ.map e)) :
    Run (S ∪ Finset.univ.map e) l (max m (Finset.univ.sup fun k => l (e k)))
      (s * Ideal.exp (m - max m (Finset.univ.sup fun k => l (e k))) + ∑ k, Ideal.exp (l (e k) - max m (Finset.univ.sup fun k => l (e k)))) := by
  have hm := le_max_left m (Finset.univ.sup fun k => l (e k))
  refine ⟨by rw [Finset.sup_union, sup_map', h.top], ?_⟩
  rw [Finset.sum_union hd, Finset.sum_map, h.sum, sum_mul _ _ _ (exp_nonneg _) (exp_ne_top _ (sub_ne_top _ _ hm))]
  congr 1
  exact Finset.sum_congr rfl fun q hq => exp_shift _ _ _ (by rw [h.top]; exact Finset.le_sup hq) hm
theorem Avg.step (h : Run S l m s) {x : ι → EReal} {a : EReal} (ha : Avg S l x m a) (hd : Disjoint S (Finset.univ.map e)) :
    Avg (S ∪ Finset.univ.map e) l x (max m (Finset.univ.sup fun k => l (e k)))
      (a * Ideal.exp (m - max m (Finset.univ.sup fun k => l (e k))) + ∑ k, Ideal.exp (l (e k) - max m (Finset.univ.sup fun k => l (e k))) * x (e k)) := by
  have hm := le_max_left m (Finset.univ.sup fun k => l (e k))
  unfold Avg at *
  rw [Finset.sum_union hd, Finset.sum_map, ha, sum_mul _ _ _ (exp_nonneg _) (exp_ne_top _ (sub_ne_top _ _ hm))]
  congr 1
  refine Finset.sum_congr rfl fun q hq => ?_
  rw [mul_right_comm, exp_shift _ _ _ (by rw [h.top]; exact Finset.le_sup hq) hm]

end Step

/-- The greatest of finitely many finite scores is finite. -/
theorem fin_mx {n : ℕ} [NeZero n] (l : Fin n → EReal) (hl : ∀ q, Fin' (l q)) : Fin' (mx l) := by
  obtain ⟨q, -, hq⟩ := Finset.exists_mem_eq_sup Finset.univ ⟨(0 : Fin n), Finset.mem_univ _⟩ l
  unfold mx
  rw [hq]
  exact hl q
/-- The quotient of the weighted sum by the sum of exponentials is the average by the softmax. -/
theorem pool_eq {n : ℕ} [NeZero n] (l x : Fin n → EReal) (hl : ∀ q, Fin' (l q)) :
    Ideal.div (∑ q, ez l q * x q) (∑ q, ez l q) = pool l x := by
  obtain ⟨M, hM⟩ := (fin_iff _).mp (fin_mx l hl)
  choose r hr using fun q => (fin_iff _).mp (hl q)
  have hz : ∀ q, ez l q = ((Real.exp (r q - M) : ℝ) : EReal) := fun q => by
    unfold ez
    rw [hM, hr, ← EReal.coe_sub, Ideal.exp_coe]
  have hs : ∑ q, ez l q = ((∑ q, Real.exp (r q - M) : ℝ) : EReal) := by
    rw [coe_sum']
    exact Finset.sum_congr rfl fun q _ => hz q
  have hp : 0 < ∑ q, Real.exp (r q - M) := Finset.sum_pos (fun q _ => Real.exp_pos _) ⟨(0 : Fin n), Finset.mem_univ _⟩
  unfold pool soft
  rw [hs, Ideal.div_coe hp.ne', sum_mul _ _ _ (by exact_mod_cast (one_div_pos.mpr hp).le) (EReal.coe_ne_top _)]
  refine Finset.sum_congr rfl fun q _ => ?_
  rw [Ideal.div_coe hp.ne', mul_right_comm]

theorem div_one (x : EReal) : Ideal.div x 1 = x := by
  rw [Ideal.div, if_neg one_ne_zero, ← EReal.coe_one, ← EReal.coe_inv, inv_one, EReal.coe_one, mul_one]
theorem ofBits_half : Ideal.ofBits .f32 0x3F000000#32 = ((1 / 2 : ℝ) : EReal) := by
  simp [Ideal.ofBits, Ideal.ieee]
  rw [← EReal.coe_mul]
  congr 1
  norm_num
theorem ofBits_two : Ideal.ofBits .f32 0x40000000#32 = ((2 : ℝ) : EReal) := by
  simp [Ideal.ofBits, Ideal.ieee]
  rw [← EReal.coe_mul]
  congr 1
  norm_num
/-- The mean of two values, as their sum halved and as half of each. -/
theorem mean2 (x y : EReal) : Ideal.div (x + y) ((2 : ℝ) : EReal) = ((1 / 2 : ℝ) : EReal) * x + ((1 / 2 : ℝ) : EReal) * y := by
  rw [Ideal.div_coe two_ne_zero, EReal.right_distrib_of_nonneg_of_ne_top (by exact_mod_cast (by norm_num : (0 : ℝ) ≤ 1 / 2)) (EReal.coe_ne_top _),
    mul_comm x, mul_comm y]

end Cert.Value
-- ==== Proof.VSub.lean ====
module

public import proofs.«01_k».proof.Proof.Stage1Arr
public import proofs.«01_k».proof.Proof.VMath
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Value
open Idealize.SL Idealize.SL.RA Idealize.SL.BI
open Idealize.ShloMosaic.Pipeline (Dat RDat Cfg Window)

/-! ### The weights, split in two -/

theorem cat_lo {e : EltTy} (a b : Vec Ideal S128x1024 e) (d : Fin 128) (j : Fin 1024) : cat a b (ix2 ⟨d.val, by omega⟩ j) = a (ix2 d j) := by
  unfold cat VecWindow.put
  rw [dif_neg]
  · refine congrArg a (funext fun i => ?_)
    fin_cases i
    · exact Fin.ext (Nat.mod_eq_of_lt d.isLt)
    · rfl
  · intro h
    have h0 : 128 ≤ d.val := (h 0).1
    omega
theorem cat_hi {e : EltTy} (a b : Vec Ideal S128x1024 e) (d : Fin 128) (j : Fin 1024) : cat a b (ix2 ⟨128 + d.val, by omega⟩ j) = b (ix2 d j) := by
  unfold cat VecWindow.put
  rw [dif_pos]
  · refine congrArg b (funext fun i => ?_)
    fin_cases i
    · exact Fin.ext (Nat.add_sub_cancel_left 128 d.val)
    · rfl
  · intro i
    fin_cases i
    · exact ⟨Nat.le_add_right 128 d.val, Nat.add_lt_add_left d.isLt 128⟩
    · exact ⟨Nat.zero_le _, (Nat.zero_add 1024).symm ▸ j.isLt⟩
theorem cat_const {e : EltTy} (z : Elt Ideal e) : cat (F := Ideal) (e := e) (fun _ => z) (fun _ => z) = fun _ => z := by
  funext y
  unfold cat VecWindow.put
  split <;> rfl

section Split

variable (w : Vec Ideal S1024x1024 .f32) (v : Vec Ideal S128x1024 .f32)

theorem hi_big : k0_pay9 w = w := by
  funext i
  idx_vars i
  pointwise [k0_pay9, k0_pay8]
theorem lo_big (h : ∀ i, Fin' (w i)) : k0_pay10 w = fun _ => (0 : EReal) := by
  funext i
  idx_vars i
  pointwise [k0_pay10, k0_pay8]
  exact sub_self_of_fin _ (h _)
theorem hi_small : k0_pay12 v = v := by
  funext i
  idx_vars i
  pointwise [k0_pay12, k0_pay11]
theorem lo_small (h : ∀ i, Fin' (v i)) : k0_pay13 v = fun _ => (0 : EReal) := by
  funext i
  idx_vars i
  pointwise [k0_pay13, k0_pay11]
  exact sub_self_of_fin _ (h _)
theorem hi_small' : k0_pay15 v = v := by
  funext i
  idx_vars i
  pointwise [k0_pay15, k0_pay14]
theorem lo_small' (h : ∀ i, Fin' (v i)) : k0_pay16 v = fun _ => (0 : EReal) := by
  funext i
  idx_vars i
  pointwise [k0_pay16, k0_pay14]
  exact sub_self_of_fin _ (h _)

end Split

/-- A matrix's rows as a function of two coordinates. -/
abbrev mat {a b : ℕ} (w : Shape.Idx ⟨2, ![a, b]⟩ → EReal) (i : Fin a) (j : Fin b) : EReal := w (ix2 i j)
/-- The first and the second half of a row of biases. -/
abbrev biasV (v : Vec Ideal S1x256 .f32) (d : Fin 128) : EReal := v (ix2 0 ⟨d.val, by omega⟩)
abbrev biasU (v : Vec Ideal S1x256 .f32) (d : Fin 128) : EReal := v (ix2 0 ⟨128 + d.val, by omega⟩)

/-- A row's score as a subtile computes it. -/
theorem scW_apply (x : Vec Ideal S1x1x512x1024 .f32) (x1 : Vec Ideal S1024x1024 .f32) (x2 x3 : Vec Ideal S128x1024 .f32) (x4 : Vec Ideal S1x256 .f32)
    (x5 : Vec Ideal S1x128 .f32) (x6 : Vec Ideal S1x1 .f32) (h1 : ∀ i, Fin' (x1 i)) (h2 : ∀ i, Fin' (x2 i)) (h3 : ∀ i, Fin' (x3 i)) (r : Fin 512) :
    scW (wts x1 x2 x3 x4 x5 x6) x (ix2 0 r)
      = score (hid (fun k => x (ix4 0 0 r k)) (mat x1)) (mat x2) (biasV x4) (mat x3) (biasU x4) (fun d => x5 (ix2 0 d)) (x6 (ix2 0 0)) := by
  unfold scW sc wts
  simp only [hi_big, lo_big _ h1, hi_small, hi_small', lo_small _ h2, lo_small' _ h3]
  rw [cat_const (e := .bf16) (0 : EReal)]
  pointwise [k0_pay44, k0_pay43]
  simp only [mul_zero, Finset.sum_const_zero, add_zero, cat_lo, cat_hi]
  rfl

/-! ### The running softmax of a batch -/

/-- The state stands for the rows of `S`, of scores `l` and entries `X`. -/
def Good {n : ℕ} (S : Finset (Fin n)) (l : Fin n → EReal) (X : Fin n → Fin 1024 → EReal) (σ : St Ideal) : Prop :=
  Run S l (σ.m (ix2 0 0)) (σ.s (ix2 0 0)) ∧ ∀ k : Fin 1024, Avg S l (fun q => X q k) (σ.m (ix2 0 0)) (σ.a (ix2 0 k))
/-- The first `n` rows. -/
def upto (n : ℕ) : Finset (Fin 4096) := Finset.univ.filter fun q => q.val < n
/-- The 512 rows from row `o`. -/
def blockAt (o : ℕ) (ho : o + 512 ≤ 4096) : Fin 512 ↪ Fin 4096 :=
  ⟨fun k => ⟨o + k.val, by omega⟩, fun a b h => Fin.ext (Nat.add_left_cancel (Fin.mk.inj h))⟩
theorem mem_upto (n : ℕ) (q : Fin 4096) : q ∈ upto n ↔ q.val < n := by simp [upto]
theorem mem_block (o : ℕ) (ho : o + 512 ≤ 4096) (q : Fin 4096) : q ∈ Finset.univ.map (blockAt o ho) ↔ o ≤ q.val ∧ q.val < o + 512 := by
  simp only [Finset.mem_map, Finset.mem_univ, true_and]
  constructor
  · rintro ⟨k, rfl⟩
    exact ⟨Nat.le_add_right _ _, Nat.add_lt_add_left k.isLt _⟩
  · rintro ⟨h1, h2⟩
    exact ⟨⟨q.val - o, by omega⟩, Fin.ext (Nat.add_sub_cancel' h1)⟩
theorem upto_add (o : ℕ) (ho : o + 512 ≤ 4096) : upto (o + 512) = upto o ∪ Finset.univ.map (blockAt o ho) := by
  ext q
  rw [Finset.mem_union, mem_upto, mem_upto, mem_block]
  omega
theorem disj_block (o : ℕ) (ho : o + 512 ≤ 4096) : Disjoint (upto o) (Finset.univ.map (blockAt o ho)) := by
  rw [Finset.disjoint_left]
  intro q h1 h2
  rw [mem_upto] at h1
  rw [mem_block] at h2
  omega

theorem good_init (l : Fin 4096 → EReal) (X : Fin 4096 → Fin 1024 → EReal) : Good (upto 0) l X init := by
  have h0 : upto 0 = ∅ := by ext q; simp [mem_upto]
  have hm : (init (F := Ideal)).m (ix2 0 0) = (⊥ : EReal) := by
    unfold init
    pointwise [k0_pay17]
    simp [Ideal.ofBits, Ideal.ieee]
  have hs : (init (F := Ideal)).s (ix2 0 0) = (0 : EReal) := by
    unfold init
    pointwise [k0_pay18]
  have ha : ∀ k : Fin 1024, (init (F := Ideal)).a (ix2 0 k) = (0 : EReal) := fun k => by
    unfold init
    pointwise [k0_pay19]
  rw [h0]
  exact ⟨⟨by rw [hm, Finset.sup_empty], by rw [hs, Finset.sum_empty]⟩, fun k => by unfold Avg; rw [ha, Finset.sum_empty]⟩

theorem good_sub (W : Wts Ideal) (x : Vec Ideal S1x1x512x1024 .f32) (σ : St Ideal) (l : Fin 4096 → EReal) (X : Fin 4096 → Fin 1024 → EReal)
    (o : ℕ) (ho : o + 512 ≤ 4096) (hl : ∀ k : Fin 512, scW W x (ix2 0 k) = l (blockAt o ho k)) (hx : ∀ (r : Fin 512) (k : Fin 1024), x (ix4 0 0 r k) = X (blockAt o ho r) k)
    (h : Good (upto o) l X σ) : Good (upto (o + 512)) l X (sub W x σ) := by
  have hm : (sub W x σ).m (ix2 0 0) = max (σ.m (ix2 0 0)) (Finset.univ.sup fun k => l (blockAt o ho k)) := by
    simp only [← hl]
    rw [← fold_max]
    unfold sub mN
    pointwise [k0_pay51, k0_pay46]
  have hs : (sub W x σ).s (ix2 0 0) = σ.s (ix2 0 0) * Ideal.exp (σ.m (ix2 0 0) - max (σ.m (ix2 0 0)) (Finset.univ.sup fun k => l (blockAt o ho k)))
      + ∑ k, Ideal.exp (l (blockAt o ho k) - max (σ.m (ix2 0 0)) (Finset.univ.sup fun k => l (blockAt o ho k))) := by
    simp only [← hl]
    rw [← fold_max]
    unfold sub sN
    pointwise [k0_pay49, k0_pay48, k0_pay47, k0_pay46]
  have ha : ∀ k : Fin 1024, (sub W x σ).a (ix2 0 k) = σ.a (ix2 0 k) * Ideal.exp (σ.m (ix2 0 0) - max (σ.m (ix2 0 0)) (Finset.univ.sup fun k => l (blockAt o ho k)))
      + ∑ r, Ideal.exp (l (blockAt o ho r) - max (σ.m (ix2 0 0)) (Finset.univ.sup fun k => l (blockAt o ho k))) * X (blockAt o ho r) k := fun k => by
    simp only [← hl, ← hx]
    rw [← fold_max]
    unfold sub aN
    pointwise [k0_pay50, k0_pay43, k0_pay48, k0_pay47, k0_pay46]
  unfold Good
  rw [upto_add o ho, hm, hs]
  refine ⟨h.1.step (blockAt o ho) (disj_block o ho), fun k => ?_⟩
  rw [ha]
  exact Avg.step (blockAt o ho) h.1 (h.2 k) (disj_block o ho)

theorem rows_apply (x0 : Vec Ideal S1x1x2048x1024 .f32) (o : ℕ) (ho : o + 512 ≤ 2048) (r : Fin 512) (k : Fin 1024) :
    rows x0 o ho (ix4 0 0 r k) = x0 (ix4 0 0 ⟨o + r.val, by omega⟩ k) := by
  unfold rows VecWindow.window
  refine congrArg x0 (funext fun a => ?_)
  fin_cases a
  · rfl
  · rfl
  · refine Fin.ext ?_
    dsimp only
    rw [ValueKit.rect_emb_unit_val]
    rfl
  · refine Fin.ext ?_
    dsimp only
    rw [ValueKit.rect_emb_unit_val]
    exact Nat.zero_add _

theorem good_tile (W : Wts Ideal) (x0 : Vec Ideal S1x1x2048x1024 .f32) (σ : St Ideal) (l : Fin 4096 → EReal) (X : Fin 4096 → Fin 1024 → EReal)
    (o : ℕ) (ho : o + 2048 ≤ 4096)
    (hl : ∀ (o' : ℕ) (ho' : o' + 512 ≤ 2048) (k : Fin 512), scW W (rows x0 o' ho') (ix2 0 k) = l ⟨o + o' + k.val, by omega⟩)
    (hx : ∀ (q : Fin 2048) (k : Fin 1024), x0 (ix4 0 0 q k) = X ⟨o + q.val, by omega⟩ k)
    (h : Good (upto o) l X σ) : Good (upto (o + 2048)) l X (tile W x0 σ) := by
  have step : ∀ (o' : ℕ) (ho' : o' + 512 ≤ 2048) (σ : St Ideal), Good (upto (o + o')) l X σ → Good (upto (o + o' + 512)) l X (sub W (rows x0 o' ho') σ) :=
    fun o' ho' σ h => good_sub W _ σ l X (o + o') (by omega) (hl o' ho')
      (fun r k => (rows_apply x0 o' ho' r k).trans ((hx _ k).trans (congrArg (X · k) (Fin.ext (Nat.add_assoc o o' r.val).symm)))) h
  unfold tile
  exact step 1536 (by omega) _ (step 1024 (by omega) _ (step 512 (by omega) _ (step 0 (by omega) _ h)))

end Cert.KernelIdeal.Hand
-- ==== Proof.VStage1.lean ====
module

public import proofs.«01_k».proof.Proof.VSub
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Value
open Idealize.SL Idealize.SL.RA Idealize.SL.BI
open Idealize.ShloMosaic.Pipeline (Dat RDat Cfg Window)

variable (V : Dev nD → Valuation τ sig (Elt Ideal)) (c : Dev nD)

/-! ### The blocks a point reads -/

theorem index0 (t : Fin cfg0.N) : win0_0.index t = ![0, (grid0.coords t 0).val, (grid0.coords t 1).val, 0] := by
  have h1 : (BitVec.ofNat 32 (grid0.coords t 1).val).toNat = (grid0.coords t 1).val := by
    have := (grid0.coords t 1).isLt
    have hb : grid0.bound 1 = 2 := rfl
    rw [BitVec.toNat_ofNat, Nat.mod_eq_of_lt (by omega)]
  exact funext fun a => match a with
    | ⟨0, _⟩ => rfl
    | ⟨1, _⟩ => coord0_toNat t
    | ⟨2, _⟩ => h1
    | ⟨3, _⟩ => rfl
theorem blk_x (b : Fin 4) (j : Fin 2) (q : Fin 2048) (k : Fin 1024) :
    (iblk V c 0 (pt b j) : Vec Ideal S1x1x2048x1024 .f32) (ix4 0 0 q k) = V c main_arg0 (ix4 0 b ⟨2048 * j.val + q.val, by omega⟩ k) := by
  show V c main_arg0 (((cfg0.win 0).blk (pt b j)).view.emb (ix4 0 0 q k)) = _
  refine congrArg (V c main_arg0) (funext fun a => Fin.ext ?_)
  have e0 : (pt b j).val / 2 = b.val := by simp only [pt]; omega
  have e1 : (pt b j).val % 2 = j.val := by simp only [pt]; omega
  fin_cases a
  · blk_simp [index0, coord0, coord1, e0, e1]
  · blk_simp [index0, coord0, coord1, e0, e1]
    rfl
  · blk_simp [index0, coord0, coord1, e0, e1]
    show j.val * 2048 + q.val = 2048 * j.val + q.val
    omega
  · blk_simp [index0, coord0, coord1, e0, e1]
    rfl
theorem blk_w1 (t : Fin cfg0.N) : (iblk V c 1 t : Vec Ideal S1024x1024 .f32) = V c main_arg1 := by
  funext y
  show V c main_arg1 (((cfg0.win 1).blk t).view.emb y) = _
  refine congrArg (V c main_arg1) (funext fun a => Fin.ext ?_)
  have e : win0_1.index t = ![0, 0] := by
    exact funext fun a => match a with
      | ⟨0, _⟩ => rfl
      | ⟨1, _⟩ => rfl
  fin_cases a
  · blk_simp [e]
  · blk_simp [e]
theorem blk_w2 (t : Fin cfg0.N) : (iblk V c 2 t : Vec Ideal S128x1024 .f32) = V c main_arg3 := by
  funext y
  show V c main_arg3 (((cfg0.win 2).blk t).view.emb y) = _
  refine congrArg (V c main_arg3) (funext fun a => Fin.ext ?_)
  have e : win0_2.index t = ![0, 0] := by
    exact funext fun a => match a with
      | ⟨0, _⟩ => rfl
      | ⟨1, _⟩ => rfl
  fin_cases a
  · blk_simp [e]
  · blk_simp [e]
theorem blk_w3 (t : Fin cfg0.N) : (iblk V c 3 t : Vec Ideal S128x1024 .f32) = V c main_arg5 := by
  funext y
  show V c main_arg5 (((cfg0.win 3).blk t).view.emb y) = _
  refine congrArg (V c main_arg5) (funext fun a => Fin.ext ?_)
  have e : win0_3.index t = ![0, 0] := by
    exact funext fun a => match a with
      | ⟨0, _⟩ => rfl
      | ⟨1, _⟩ => rfl
  fin_cases a
  · blk_simp [e]
  · blk_simp [e]
theorem blk_w4 (t : Fin cfg0.N) : (iblk V c 4 t : Vec Ideal S1x256 .f32) = V c main_v1 := by
  funext y
  show V c main_v1 (((cfg0.win 4).blk t).view.emb y) = _
  refine congrArg (V c main_v1) (funext fun a => Fin.ext ?_)
  have e : win0_4.index t = ![0, 0] := by
    exact funext fun a => match a with
      | ⟨0, _⟩ => rfl
      | ⟨1, _⟩ => rfl
  fin_cases a
  · blk_simp [e]
  · blk_simp [e]
theorem blk_w5 (t : Fin cfg0.N) : (iblk V c 5 t : Vec Ideal S1x128 .f32) = V c main_arg7 := by
  funext y
  show V c main_arg7 (((cfg0.win 5).blk t).view.emb y) = _
  refine congrArg (V c main_arg7) (funext fun a => Fin.ext ?_)
  have e : win0_5.index t = ![0, 0] := by
    exact funext fun a => match a with
      | ⟨0, _⟩ => rfl
      | ⟨1, _⟩ => rfl
  fin_cases a
  · blk_simp [e]
  · blk_simp [e]
theorem blk_w6 (t : Fin cfg0.N) : (iblk V c 6 t : Vec Ideal S1x1 .f32) = V c main_v2 := by
  funext y
  show V c main_v2 (((cfg0.win 6).blk t).view.emb y) = _
  refine congrArg (V c main_v2) (funext fun a => Fin.ext ?_)
  have e : win0_6.index t = ![0, 0] := by
    exact funext fun a => match a with
      | ⟨0, _⟩ => rfl
      | ⟨1, _⟩ => rfl
  fin_cases a
  · blk_simp [e]
  · blk_simp [e]

/-! ### What the first stage leaves -/

theorem wtsAt_eq (t : Fin cfg0.N) : wtsAt V c t = wts (V c main_arg1) (V c main_arg3) (V c main_arg5) (V c main_v1) (V c main_arg7) (V c main_v2) := by
  show wts (iblk V c 1 t0_0 : Vec Ideal S1024x1024 .f32) (iblk V c 2 t0_0 : Vec Ideal S128x1024 .f32) (iblk V c 3 t0_0 : Vec Ideal S128x1024 .f32)
    (iblk V c 4 t : Vec Ideal S1x256 .f32) (iblk V c 5 t : Vec Ideal S1x128 .f32) (iblk V c 6 t : Vec Ideal S1x1 .f32) = _
  rw [blk_w1, blk_w2, blk_w3, blk_w4, blk_w5, blk_w6]

/-- Row `q` of batch `b`'s score. -/
def L1 (b : Fin 4) (q : Fin 4096) : EReal :=
  score (hid (fun k => V c main_arg0 (ix4 0 b q k)) (mat (a := 1024) (b := 1024) (V c main_arg1))) (mat (a := 128) (b := 1024) (V c main_arg3)) (biasV (V c main_v1))
    (mat (a := 128) (b := 1024) (V c main_arg5)) (biasU (V c main_v1)) (fun d => V c main_arg7 (ix2 0 d)) (V c main_v2 (ix2 0 0))

variable (h1 : ∀ i, Fin' (V c main_arg1 i)) (h2 : ∀ i, Fin' (V c main_arg3 i)) (h3 : ∀ i, Fin' (V c main_arg5 i))
include h1 h2 h3

theorem row_score (b : Fin 4) (j : Fin 2) (o : ℕ) (ho : o + 512 ≤ 2048) (k : Fin 512) :
    scW (wtsAt V c (pt b j)) (rows (iblk V c 0 (pt b j)) o ho) (ix2 0 k) = L1 V c b ⟨2048 * j.val + o + k.val, by omega⟩ := by
  rw [wtsAt_eq, scW_apply _ _ _ _ _ _ _ h1 h2 h3]
  unfold L1
  congr 2
  funext i
  rw [rows_apply]
  refine (blk_x V c b j _ i).trans ?_
  exact congrArg (fun q => V c main_arg0 (ix4 0 b q i)) (Fin.ext (Nat.add_assoc _ _ _).symm)

theorem logit_eq (b : Fin 4) (q : Fin 4096) : logit V c b q = L1 V c b q := by
  unfold logit lgAt lg
  have h : ∀ (l : FVec Ideal S1x512 .f32) (k : Fin 512), k0_pay45 l (ix512 k) = l (ix2 0 k) := fun l k => by
    have e : ix512 k = ix3 0 0 k := by
      funext a
      fin_cases a <;> rfl
    rw [e]
    pointwise [k0_pay45]
  rw [h, row_score V c h1 h2 h3]
  exact congrArg (L1 V c b) (Fin.ext (by simp only; omega))

theorem state_good (b : Fin 4) :
    Good (upto 4096) (L1 V c b) (fun q k => V c main_arg0 (ix4 0 b q k)) (stAt V c (pt b 1).val (pt b 1).isLt) := by
  have e0 : (pt b 0).val % 2 = 0 := by simp only [pt]; omega
  have e1 : ¬(pt b 1).val % 2 = 0 := by simp only [pt]; omega
  have hp : ∀ h, stAt V c ((pt b 1).val - 1) h = stAt V c (pt b 0).val (pt b 0).isLt := fun h => rfl
  rw [stAt_odd V c _ e1, hp, stAt_even V c _ e0]
  refine good_tile _ _ _ _ _ 2048 (by omega) (fun o ho k => row_score V c h1 h2 h3 b 1 o ho k) (fun q k => blk_x V c b 1 q k) ?_
  exact good_tile _ _ _ _ _ 0 (by omega) (fun o ho k => row_score V c h1 h2 h3 b 0 o ho k) (fun q k => blk_x V c b 0 q k) (good_init _ _)

/-- The features of a batch: its rows averaged by the softmax of their scores. -/
theorem feat_eq (h4 : ∀ d, Fin' (V c main_arg7 (ix2 0 d))) (h5 : Fin' (V c main_v2 (ix2 0 0))) (b : Fin 4) (k : Fin 1024) :
    feat V c b k = pool (L1 V c b) (fun q => V c main_arg0 (ix4 0 b q k)) := by
  have hg := state_good V c h1 h2 h3 b
  have hu : upto 4096 = Finset.univ := by ext q; simp [mem_upto]
  rw [hu] at hg
  unfold feat
  generalize stAt V c (pt b 1).val (pt b 1).isLt = σ at hg ⊢
  have e : ix1024 k = ix3 0 0 k := by
    funext a
    fin_cases a <;> rfl
  have hd : k0_pay7 σ.a σ.s (ix3 0 0 k) = Ideal.div (σ.a (ix2 0 k)) (σ.s (ix2 0 0)) := by pointwise [k0_pay7]
  have ha := hg.2 k
  unfold Avg at ha
  rw [e, hd, ha, hg.1.sum, hg.1.top]
  exact pool_eq (L1 V c b) (fun q => V c main_arg0 (ix4 0 b q k)) fun q => fin_score _ _ _ _ _ _ _ h4 h5

end Cert.KernelIdeal.Hand
-- ==== Proof.VStage2.lean ====
module

public import proofs.«01_k».proof.Proof.Stage2Dat
public import proofs.«01_k».proof.Proof.VSub
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Value
open Idealize.SL Idealize.SL.RA Idealize.SL.BI
open Idealize.ShloMosaic.Pipeline (Dat RDat Cfg Window)

/-! ### The weights, split in two -/

section Split

variable (w : Vec Ideal S1024x1024 .f32) (v : Vec Ideal S128x1024 .f32)

theorem hi2 : k1_pay2 w = w := by
  funext i
  idx_vars i
  pointwise [k1_pay2, k1_pay1]
theorem lo2 (h : ∀ i, Fin' (w i)) : k1_pay3 w = fun _ => (0 : EReal) := by
  funext i
  idx_vars i
  pointwise [k1_pay3, k1_pay1]
  exact sub_self_of_fin _ (h _)
theorem hi5 : k1_pay5 v = v := by
  funext i
  idx_vars i
  pointwise [k1_pay5, k1_pay4]
theorem lo6 (h : ∀ i, Fin' (v i)) : k1_pay6 v = fun _ => (0 : EReal) := by
  funext i
  idx_vars i
  pointwise [k1_pay6, k1_pay4]
  exact sub_self_of_fin _ (h _)
theorem hi8 : k1_pay8 v = v := by
  funext i
  idx_vars i
  pointwise [k1_pay8, k1_pay7]
theorem lo9 (h : ∀ i, Fin' (v i)) : k1_pay9 v = fun _ => (0 : EReal) := by
  funext i
  idx_vars i
  pointwise [k1_pay9, k1_pay7]
  exact sub_self_of_fin _ (h _)
theorem hi11 : k1_pay11 v = v := by
  funext i
  idx_vars i
  pointwise [k1_pay11, k1_pay10]
theorem lo12 (h : ∀ i, Fin' (v i)) : k1_pay12 v = fun _ => (0 : EReal) := by
  funext i
  idx_vars i
  pointwise [k1_pay12, k1_pay10]
  exact sub_self_of_fin _ (h _)
theorem hi14 : k1_pay14 v = v := by
  funext i
  idx_vars i
  pointwise [k1_pay14, k1_pay13]
theorem lo15 (h : ∀ i, Fin' (v i)) : k1_pay15 v = fun _ => (0 : EReal) := by
  funext i
  idx_vars i
  pointwise [k1_pay15, k1_pay13]
  exact sub_self_of_fin _ (h _)

end Split

/-! ### The second stage's results at an index -/

theorem res18_apply (x0 : Vec Ideal S4x4096 .f32) (b : Fin 4) (q : Fin 4096) : res18 x0 (ix2 b q) = soft (fun q => x0 (ix2 b q)) q := by
  unfold res18
  pointwise [k1_pay16]
  simp only [fold_max]
  rfl

section Att

variable (x1 : Vec Ideal S4x1024 .f32) (x2 : Vec Ideal S1024x1024 .f32) (x3 x4 : Vec Ideal S128x1024 .f32) (x5 : Vec Ideal S1x256 .f32)
  (x6 : Vec Ideal S4x128 .f32) (x7 : Vec Ideal S4x1 .f32)

/-- The scores of slot `t` over the batches. -/
def sc2 (t b : Fin 4) : EReal :=
  score (hid (fun k => x1 (ix2 b k)) (mat (a := 1024) (b := 1024) x2)) (mat (a := 128) (b := 1024) x3) (biasV x5) (mat (a := 128) (b := 1024) x4) (biasU x5)
    (fun d => x6 (ix2 t d)) (x7 (ix2 t 0))

variable (h2 : ∀ i, Fin' (x2 i)) (h3 : ∀ i, Fin' (x3 i)) (h4 : ∀ i, Fin' (x4 i))
include h2 h3 h4

theorem top2_apply (t b : Fin 4) : top2 x1 x2 x3 x4 x5 x6 x7 (ix2 t b) = ez (sc2 x1 x2 x3 x4 x5 x6 x7 t) b := by
  unfold top2
  rw [hi2, lo2 _ h2, hi5, hi8, lo6 _ h3, lo9 _ h4, cat_const (e := .bf16) (0 : EReal)]
  pointwise [k1_pay18, k1_pay17]
  simp only [mul_zero, Finset.sum_const_zero, add_zero, cat_lo, cat_hi, fold_max]
  rfl
theorem den2_apply (t : Fin 4) : den2 x1 x2 x3 x4 x5 x6 x7 (ix1 t) = ∑ b, ez (sc2 x1 x2 x3 x4 x5 x6 x7 t) b := by
  have e : den2 x1 x2 x3 x4 x5 x6 x7 (ix1 t) = ∑ b, top2 x1 x2 x3 x4 x5 x6 x7 (ix2 t b) := by
    unfold den2 top2
    pointwise [k1_pay19]
  rw [e]
  exact Finset.sum_congr rfl fun b _ => top2_apply _ _ _ _ _ _ _ h2 h3 h4 t b
theorem res19_apply (t b : Fin 4) : res19 x1 x2 x3 x4 x5 x6 x7 (ix2 t b) = soft (sc2 x1 x2 x3 x4 x5 x6 x7 t) b := by
  have e : res19 x1 x2 x3 x4 x5 x6 x7 (ix2 t b) = Ideal.div (top2 x1 x2 x3 x4 x5 x6 x7 (ix2 t b)) (den2 x1 x2 x3 x4 x5 x6 x7 (ix1 t)) := by
    unfold res19
    pointwise [k1_pay20]
  rw [e, top2_apply _ _ _ _ _ _ _ h2 h3 h4, den2_apply _ _ _ _ _ _ _ h2 h3 h4]
  rfl
theorem res20_apply (x13 x14 : Vec Ideal S4x1024 .f32) (x15 : Vec Ideal S4x2 .f32) (t : Fin 4) (k : Fin 2) :
    res20 x1 x2 x3 x4 x5 x6 x7 x13 x14 x15 (ix2 t k)
      = heads (fun t => soft (sc2 x1 x2 x3 x4 x5 x6 x7 t)) (fun b d => x1 (ix2 b d)) (fun d => if k.val < 1 then x13 (ix2 t d) else x14 (ix2 t d)) (x15 (ix2 t k)) t := by
  unfold res20
  pointwise [k1_pay21, k1_pay20, k1_pay17]
  simp only [top2_apply _ _ _ _ _ _ _ h2 h3 h4, den2_apply _ _ _ _ _ _ _ h2 h3 h4]
  unfold heads
  split <;> rfl

/-- The two bags' features. -/
theorem bag_apply (i : Fin 2) (d : Fin 1024) :
    k1_pay22 (k1_pay17 x1) (top2 x1 x2 x3 x4 x5 x6 x7) (den2 x1 x2 x3 x4 x5 x6 x7) (ix2 i d)
      = bags (fun t => soft (sc2 x1 x2 x3 x4 x5 x6 x7 t)) (fun b d => x1 (ix2 b d)) i d := by
  pointwise [k1_pay22, k1_pay20, k1_pay17]
  simp only [top2_apply _ _ _ _ _ _ _ h2 h3 h4, den2_apply _ _ _ _ _ _ _ h2 h3 h4, ofBits_half]
  unfold bags mixed
  refine Finset.sum_congr rfl fun b _ => congrArg (· * x1 (ix2 b d)) ?_
  rw [Fin.sum_univ_four]
  fin_cases i
  · simp [Scalar.select, IntOp.cmpi, IntOp.andi, IntOp.ori, soft]
  · simp [Scalar.select, IntOp.cmpi, IntOp.andi, IntOp.ori, soft]

theorem res21_apply (x8 x9 : Vec Ideal S128x1024 .f32) (x10 : Vec Ideal S1x256 .f32) (x11 : Vec Ideal S1x128 .f32) (x12 : Vec Ideal S1x1 .f32)
    (x16 : Vec Ideal S2x1024 .f32) (x17 : Vec Ideal S1x2 .f32) (h8 : ∀ i, Fin' (x8 i)) (h9 : ∀ i, Fin' (x9 i)) (k : Fin 2) :
    res21 x1 x2 x3 x4 x5 x6 x7 x8 x9 x10 x11 x12 x16 x17 (ix2 0 k)
      = slide (bags (fun t => soft (sc2 x1 x2 x3 x4 x5 x6 x7 t)) (fun b d => x1 (ix2 b d))) (mat (a := 128) (b := 1024) x8) (biasV x10)
          (mat (a := 128) (b := 1024) x9) (biasU x10) (fun d => x11 (ix2 0 d)) (x12 (ix2 0 0)) (fun d => x16 (ix2 k d)) (x17 (ix2 0 k)) := by
  unfold res21
  rw [hi11, hi14, lo12 _ h8, lo15 _ h9, cat_const (e := .bf16) (0 : EReal)]
  have hb := bag_apply x1 x2 x3 x4 x5 x6 x7 h2 h3 h4
  generalize k1_pay22 (k1_pay17 x1) (top2 x1 x2 x3 x4 x5 x6 x7) (den2 x1 x2 x3 x4 x5 x6 x7) = g at hb
  pointwise [k1_pay23]
  simp only [mul_zero, Finset.sum_const_zero, add_zero, cat_lo, cat_hi, fold_max, hb]
  rfl

end Att

end Cert.KernelIdeal.Hand
-- ==== Proof.VModel.lean ====
module

public import proofs.«01_k».proof.Proof.VMath

@[expose] public section

noncomputable section

namespace Cert.Value

open Idealize.ShloMosaic

/-- The twenty-five argument arrays, read entry by entry. -/
structure Args where
  x : Fin 4 → Fin 4096 → Fin 1024 → EReal
  w1 : Fin 1024 → Fin 1024 → EReal
  w2 : Fin 1024 → Fin 1024 → EReal
  v1 : Fin 128 → Fin 1024 → EReal
  c1 : Fin 128 → EReal
  u1 : Fin 128 → Fin 1024 → EReal
  e1 : Fin 128 → EReal
  a1 : Fin 128 → EReal
  b1 : EReal
  v2 : Fin 128 → Fin 1024 → EReal
  c2 : Fin 128 → EReal
  u2 : Fin 128 → Fin 1024 → EReal
  e2 : Fin 128 → EReal
  a2 : Fin 4 → Fin 128 → EReal
  b2 : Fin 4 → EReal
  v3 : Fin 128 → Fin 1024 → EReal
  c3 : Fin 128 → EReal
  u3 : Fin 128 → Fin 1024 → EReal
  e3 : Fin 128 → EReal
  a3 : Fin 128 → EReal
  b3 : EReal
  hw : Fin 4 → Fin 2 → Fin 1024 → EReal
  hb : Fin 4 → Fin 2 → EReal
  sw : Fin 2 → Fin 1024 → EReal
  sb : Fin 2 → EReal

namespace Args
variable (A : Args)
/-- The scores of the rows of batch `b`. -/
def l1 (b : Fin 4) (n : Fin 4096) : EReal := score (hid (A.x b n) A.w1) A.v1 A.c1 A.u1 A.e1 A.a1 A.b1
/-- The pooled features of batch `b`. -/
def ft (b : Fin 4) (k : Fin 1024) : EReal := pool (A.l1 b) fun n => A.x b n k
/-- The scores of the batches for slot `t`. -/
def l2 (t b : Fin 4) : EReal := score (hid (A.ft b) A.w2) A.v2 A.c2 A.u2 A.e2 (A.a2 t) (A.b2 t)
/-- The attention of slot `t` over the batches. -/
def at2 (t : Fin 4) : Fin 4 → EReal := soft (A.l2 t)
/-- The classifiers' outputs. -/
def cls (t : Fin 4) (k : Fin 2) : EReal := heads A.at2 A.ft (A.hw t k) (A.hb t k) t
/-- The slide's outputs. -/
def sld (k : Fin 2) : EReal := slide (bags A.at2 A.ft) A.v3 A.c3 A.u3 A.e3 A.a3 A.b3 (A.sw k) (A.sb k)
end Args

/-- The six results of the problem at the arguments `A`. -/
structure Is (A : Args) (r0 : (⟨2, ![4, 2]⟩ : Shape).Idx → EReal) (r1 : (⟨2, ![1, 2]⟩ : Shape).Idx → EReal) (r2 : (⟨3, ![4, 1, 4096]⟩ : Shape).Idx → EReal) (r3 r4 : (⟨2, ![2, 4]⟩ : Shape).Idx → EReal) (r5 : (⟨2, ![4, 4]⟩ : Shape).Idx → EReal) : Prop where
  h0 : ∀ t k, r0 (ix2 t k) = A.cls t k
  h1 : ∀ k, r1 (ix2 0 k) = A.sld k
  h2 : ∀ b n, r2 (ix3 b 0 n) = soft (A.l1 b) n
  h3 : ∀ i b, r3 (ix2 i b) = A.at2 ⟨i.val, by omega⟩ b
  h4 : ∀ i b, r4 (ix2 i b) = A.at2 ⟨2 + i.val, by omega⟩ b
  h5 : ∀ t b, r5 (ix2 t b) = A.at2 t b

/-- Two families of results of the same arguments are the same. -/
theorem Is.unique {A : Args} {r0 r0' : (⟨2, ![4, 2]⟩ : Shape).Idx → EReal} {r1 r1' : (⟨2, ![1, 2]⟩ : Shape).Idx → EReal} {r2 r2' : (⟨3, ![4, 1, 4096]⟩ : Shape).Idx → EReal}
    {r3 r3' r4 r4' : (⟨2, ![2, 4]⟩ : Shape).Idx → EReal} {r5 r5' : (⟨2, ![4, 4]⟩ : Shape).Idx → EReal} (h : Is A r0 r1 r2 r3 r4 r5) (h' : Is A r0' r1' r2' r3' r4' r5') :
    r0 = r0' ∧ r1 = r1' ∧ r2 = r2' ∧ r3 = r3' ∧ r4 = r4' ∧ r5 = r5' := by
  refine ⟨?_, ?_, ?_, ?_, ?_, ?_⟩ <;> funext i <;> idx_vars i
  · exact (h.h0 _ _).trans (h'.h0 _ _).symm
  · obtain rfl : i0 = 0 := Subsingleton.elim _ _
    exact (h.h1 _).trans (h'.h1 _).symm
  · obtain rfl : i1 = 0 := Subsingleton.elim _ _
    exact (h.h2 _ _).trans (h'.h2 _ _).symm
  · exact (h.h3 _ _).trans (h'.h3 _ _).symm
  · exact (h.h4 _ _).trans (h'.h4 _ _).symm
  · exact (h.h5 _ _).trans (h'.h5 _ _).symm

end Cert.Value
-- ==== Proof.VKernel.lean ====
module

public import proofs.«01_k».proof.Proof.Run
public import proofs.«01_k».proof.Proof.VStage1
public import proofs.«01_k».proof.Proof.VStage2
public import Idealize.ShloMosaic.Lib.StableHlo.ReadAt
public import proofs.«01_k».proof.Proof.VModel
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Value
open Idealize.SL Idealize.SL.RA Idealize.SL.BI
open Idealize.ShloMosaic.Pipeline (Dat RDat Cfg Window)

variable (m : (ℓ : Loc nD τ sig) → Buf (Elt Ideal) ℓ) (c : Dev nD)

/-- The kernel's arguments. -/
def argsK : Args where
  x b n k := m ((c.tc : Thread nD τ).loc main_arg0) (ix4 0 b n k)
  w1 i j := m ((c.tc : Thread nD τ).loc main_arg1) (ix2 i j)
  w2 i j := m ((c.tc : Thread nD τ).loc main_arg2) (ix2 i j)
  v1 i j := m ((c.tc : Thread nD τ).loc main_arg3) (ix2 i j)
  c1 i := m ((c.tc : Thread nD τ).loc main_arg4) (ix1 i)
  u1 i j := m ((c.tc : Thread nD τ).loc main_arg5) (ix2 i j)
  e1 i := m ((c.tc : Thread nD τ).loc main_arg6) (ix1 i)
  a1 i := m ((c.tc : Thread nD τ).loc main_arg7) (ix2 0 i)
  b1 := m ((c.tc : Thread nD τ).loc main_arg8) (ix1 0)
  v2 i j := m ((c.tc : Thread nD τ).loc main_arg9) (ix2 i j)
  c2 i := m ((c.tc : Thread nD τ).loc main_arg10) (ix1 i)
  u2 i j := m ((c.tc : Thread nD τ).loc main_arg11) (ix2 i j)
  e2 i := m ((c.tc : Thread nD τ).loc main_arg12) (ix1 i)
  a2 i j := m ((c.tc : Thread nD τ).loc main_arg13) (ix2 i j)
  b2 i := m ((c.tc : Thread nD τ).loc main_arg14) (ix1 i)
  v3 i j := m ((c.tc : Thread nD τ).loc main_arg15) (ix2 i j)
  c3 i := m ((c.tc : Thread nD τ).loc main_arg16) (ix1 i)
  u3 i j := m ((c.tc : Thread nD τ).loc main_arg17) (ix2 i j)
  e3 i := m ((c.tc : Thread nD τ).loc main_arg18) (ix1 i)
  a3 i := m ((c.tc : Thread nD τ).loc main_arg19) (ix2 0 i)
  b3 := m ((c.tc : Thread nD τ).loc main_arg20) (ix1 0)
  hw t k d := m ((c.tc : Thread nD τ).loc main_arg21) (ix3 t k d)
  hb t k := m ((c.tc : Thread nD τ).loc main_arg22) (ix2 t k)
  sw k d := m ((c.tc : Thread nD τ).loc main_arg23) (ix2 k d)
  sb k := m ((c.tc : Thread nD τ).loc main_arg24) (ix1 k)

/-! ### What the host leaves in front of the first stage -/

theorem at1 (r : Ref sig .tc) (h : r ∉ hostOps0_W) : V1 m c r = m ((c.tc : Thread nD τ).loc r) := (V1_of m c r h).trans rfl
theorem kv1_v (d : Fin 128) : biasV (V1 m c main_v1) d = (argsK m c).c1 d := by
  unfold biasV
  after_reads_at
  rfl
theorem kv1_u (d : Fin 128) : biasU (V1 m c main_v1) d = (argsK m c).e1 d := by
  unfold biasU
  after_reads_at
  rfl
theorem kv2 : V1 m c main_v2 (ix2 0 0) = (argsK m c).b1 := by
  after_reads_at
  rfl
/-- The first stage's scores are the model's. -/
theorem l1_eq (b : Fin 4) : L1 (V1 m) c b = (argsK m c).l1 b := by
  funext q
  unfold L1
  rw [funext (kv1_v m c), funext (kv1_u m c), kv2 m c, at1 m c main_arg0 (by decide), at1 m c main_arg1 (by decide), at1 m c main_arg3 (by decide),
    at1 m c main_arg5 (by decide), at1 m c main_arg7 (by decide)]
  rfl

/-! ### What the host leaves in front of the second stage -/

theorem at3' (r : Ref sig .tc) (h : r ∉ ([main_v3_0, main_v3_1] : List (Ref sig .tc))) (h' : r ∉ hostOps0_W) : V2 m (outs m) c r = m ((c.tc : Thread nD τ).loc r) :=
  (V2_of m (outs m) c r h).trans (at1 m c r h')
theorem at3 (r : Ref sig .tc) (h : r ∉ hostOps1_W) (h1 : r ∉ ([main_v3_0, main_v3_1] : List (Ref sig .tc))) (h' : r ∉ hostOps0_W) :
    V3 m (outs m) c r = m ((c.tc : Thread nD τ).loc r) := (V3_of m (outs m) c r h).trans (at3' m c r h1 h')
theorem kv4 (b : Fin 4) (n : Fin 4096) : V3 m (outs m) c main_v4 (ix2 b n) = logit (V1 m) c b n := by
  after_reads_at
  exact congrFun (V2_v3_0 m c) _
theorem kv5 (b : Fin 4) (k : Fin 1024) : V3 m (outs m) c main_v5 (ix2 b k) = feat (V1 m) c b k := by
  after_reads_at
  exact congrFun (V2_v3_1 m c) _
theorem kv7_v (d : Fin 128) : biasV (V3 m (outs m) c main_v7) d = (argsK m c).c2 d := by
  unfold biasV
  after_reads_at
  exact congrFun (at3' m c main_arg10 (by decide) (by decide)) _
theorem kv7_u (d : Fin 128) : biasU (V3 m (outs m) c main_v7) d = (argsK m c).e2 d := by
  unfold biasU
  after_reads_at
  exact congrFun (at3' m c main_arg12 (by decide) (by decide)) _
theorem kv9_v (d : Fin 128) : biasV (V3 m (outs m) c main_v9) d = (argsK m c).c3 d := by
  unfold biasV
  after_reads_at
  exact congrFun (at3' m c main_arg16 (by decide) (by decide)) _
theorem kv9_u (d : Fin 128) : biasU (V3 m (outs m) c main_v9) d = (argsK m c).e3 d := by
  unfold biasU
  after_reads_at
  exact congrFun (at3' m c main_arg18 (by decide) (by decide)) _
theorem kv10 (t : Fin 4) : V3 m (outs m) c main_v10 (ix2 t 0) = (argsK m c).b2 t := by
  after_reads_at
  exact congrFun (at3' m c main_arg14 (by decide) (by decide)) _
theorem kv11 : V3 m (outs m) c main_v11 (ix2 0 0) = (argsK m c).b3 := by
  after_reads_at
  exact congrFun (at3' m c main_arg20 (by decide) (by decide)) _
theorem kv13 (t : Fin 4) (d : Fin 1024) : V3 m (outs m) c main_v13 (ix2 t d) = (argsK m c).hw t 0 d := by
  after_reads_at
  exact congrFun (at3' m c main_arg21 (by decide) (by decide)) _
theorem kv15 (t : Fin 4) (d : Fin 1024) : V3 m (outs m) c main_v15 (ix2 t d) = (argsK m c).hw t 1 d := by
  after_reads_at
  exact congrFun (at3' m c main_arg21 (by decide) (by decide)) _
theorem kv16 (k : Fin 2) : V3 m (outs m) c main_v16 (ix2 0 k) = (argsK m c).sb k := by
  after_reads_at
  exact congrFun (at3' m c main_arg24 (by decide) (by decide)) _

/-! ### The second stage's blocks are its arrays -/

variable (V : Dev nD → Valuation τ sig (Elt Ideal))

theorem index1 : ∀ (w : Fin cfg1.W) (a : Fin (cfg1.win w).shape.rank), (cfg1.win w).index t1_0 a = 0 := by decide +kernel
theorem jb0 : (jblk V c 0 t1_0 : Vec Ideal S4x4096 .f32) = V c main_v4 :=
  funext fun y => congrArg (V c main_v4) (funext fun a => Fin.ext ((cfg1.win 0).rect_emb_val_of_index_zero t1_0 a (index1 0 a) y))
theorem jb1 : (jblk V c 1 t1_0 : Vec Ideal S4x1024 .f32) = V c main_v5 :=
  funext fun y => congrArg (V c main_v5) (funext fun a => Fin.ext ((cfg1.win 1).rect_emb_val_of_index_zero t1_0 a (index1 1 a) y))
theorem jb2 : (jblk V c 2 t1_0 : Vec Ideal S1024x1024 .f32) = V c main_arg2 :=
  funext fun y => congrArg (V c main_arg2) (funext fun a => Fin.ext ((cfg1.win 2).rect_emb_val_of_index_zero t1_0 a (index1 2 a) y))
theorem jb3 : (jblk V c 3 t1_0 : Vec Ideal S128x1024 .f32) = V c main_arg9 :=
  funext fun y => congrArg (V c main_arg9) (funext fun a => Fin.ext ((cfg1.win 3).rect_emb_val_of_index_zero t1_0 a (index1 3 a) y))
theorem jb4 : (jblk V c 4 t1_0 : Vec Ideal S128x1024 .f32) = V c main_arg11 :=
  funext fun y => congrArg (V c main_arg11) (funext fun a => Fin.ext ((cfg1.win 4).rect_emb_val_of_index_zero t1_0 a (index1 4 a) y))
theorem jb5 : (jblk V c 5 t1_0 : Vec Ideal S1x256 .f32) = V c main_v7 :=
  funext fun y => congrArg (V c main_v7) (funext fun a => Fin.ext ((cfg1.win 5).rect_emb_val_of_index_zero t1_0 a (index1 5 a) y))
theorem jb6 : (jblk V c 6 t1_0 : Vec Ideal S4x128 .f32) = V c main_arg13 :=
  funext fun y => congrArg (V c main_arg13) (funext fun a => Fin.ext ((cfg1.win 6).rect_emb_val_of_index_zero t1_0 a (index1 6 a) y))
theorem jb7 : (jblk V c 7 t1_0 : Vec Ideal S4x1 .f32) = V c main_v10 :=
  funext fun y => congrArg (V c main_v10) (funext fun a => Fin.ext ((cfg1.win 7).rect_emb_val_of_index_zero t1_0 a (index1 7 a) y))
theorem jb8 : (jblk V c 8 t1_0 : Vec Ideal S128x1024 .f32) = V c main_arg15 :=
  funext fun y => congrArg (V c main_arg15) (funext fun a => Fin.ext ((cfg1.win 8).rect_emb_val_of_index_zero t1_0 a (index1 8 a) y))
theorem jb9 : (jblk V c 9 t1_0 : Vec Ideal S128x1024 .f32) = V c main_arg17 :=
  funext fun y => congrArg (V c main_arg17) (funext fun a => Fin.ext ((cfg1.win 9).rect_emb_val_of_index_zero t1_0 a (index1 9 a) y))
theorem jb10 : (jblk V c 10 t1_0 : Vec Ideal S1x256 .f32) = V c main_v9 :=
  funext fun y => congrArg (V c main_v9) (funext fun a => Fin.ext ((cfg1.win 10).rect_emb_val_of_index_zero t1_0 a (index1 10 a) y))
theorem jb11 : (jblk V c 11 t1_0 : Vec Ideal S1x128 .f32) = V c main_arg19 :=
  funext fun y => congrArg (V c main_arg19) (funext fun a => Fin.ext ((cfg1.win 11).rect_emb_val_of_index_zero t1_0 a (index1 11 a) y))
theorem jb12 : (jblk V c 12 t1_0 : Vec Ideal S1x1 .f32) = V c main_v11 :=
  funext fun y => congrArg (V c main_v11) (funext fun a => Fin.ext ((cfg1.win 12).rect_emb_val_of_index_zero t1_0 a (index1 12 a) y))
theorem jb13 : (jblk V c 13 t1_0 : Vec Ideal S4x1024 .f32) = V c main_v13 :=
  funext fun y => congrArg (V c main_v13) (funext fun a => Fin.ext ((cfg1.win 13).rect_emb_val_of_index_zero t1_0 a (index1 13 a) y))
theorem jb14 : (jblk V c 14 t1_0 : Vec Ideal S4x1024 .f32) = V c main_v15 :=
  funext fun y => congrArg (V c main_v15) (funext fun a => Fin.ext ((cfg1.win 14).rect_emb_val_of_index_zero t1_0 a (index1 14 a) y))
theorem jb15 : (jblk V c 15 t1_0 : Vec Ideal S4x2 .f32) = V c main_arg22 :=
  funext fun y => congrArg (V c main_arg22) (funext fun a => Fin.ext ((cfg1.win 15).rect_emb_val_of_index_zero t1_0 a (index1 15 a) y))
theorem jb16 : (jblk V c 16 t1_0 : Vec Ideal S2x1024 .f32) = V c main_arg23 :=
  funext fun y => congrArg (V c main_arg23) (funext fun a => Fin.ext ((cfg1.win 16).rect_emb_val_of_index_zero t1_0 a (index1 16 a) y))
theorem jb17 : (jblk V c 17 t1_0 : Vec Ideal S1x2 .f32) = V c main_v16 :=
  funext fun y => congrArg (V c main_v16) (funext fun a => Fin.ext ((cfg1.win 17).rect_emb_val_of_index_zero t1_0 a (index1 17 a) y))

theorem arr18 : (dat1 V c).arrAt 18 cfg1.N = res18 (V c main_v4) := by
  refine Dat.arrAt_eq_of_after_last (dat1 V c) 18 t1_0 (by decide +kernel) _ fun j => ?_
  rw [← jb0 c V]
  rfl
theorem arr19 : (dat1 V c).arrAt 19 cfg1.N = res19 (V c main_v5) (V c main_arg2) (V c main_arg9) (V c main_arg11) (V c main_v7) (V c main_arg13) (V c main_v10) := by
  refine Dat.arrAt_eq_of_after_last (dat1 V c) 19 t1_0 (by decide +kernel) _ fun j => ?_
  rw [← jb1 c V, ← jb2 c V, ← jb3 c V, ← jb4 c V, ← jb5 c V, ← jb6 c V, ← jb7 c V]
  rfl
theorem arr20 : (dat1 V c).arrAt 20 cfg1.N = res20 (V c main_v5) (V c main_arg2) (V c main_arg9) (V c main_arg11) (V c main_v7) (V c main_arg13) (V c main_v10) (V c main_v13) (V c main_v15) (V c main_arg22) := by
  refine Dat.arrAt_eq_of_after_last (dat1 V c) 20 t1_0 (by decide +kernel) _ fun j => ?_
  rw [← jb1 c V, ← jb2 c V, ← jb3 c V, ← jb4 c V, ← jb5 c V, ← jb6 c V, ← jb7 c V, ← jb13 c V, ← jb14 c V, ← jb15 c V]
  rfl
theorem arr21 : (dat1 V c).arrAt 21 cfg1.N = res21 (V c main_v5) (V c main_arg2) (V c main_arg9) (V c main_arg11) (V c main_v7) (V c main_arg13) (V c main_v10) (V c main_arg15) (V c main_arg17) (V c main_v9) (V c main_arg19) (V c main_v11) (V c main_arg23) (V c main_v16) := by
  refine Dat.arrAt_eq_of_after_last (dat1 V c) 21 t1_0 (by decide +kernel) _ fun j => ?_
  rw [← jb1 c V, ← jb2 c V, ← jb3 c V, ← jb4 c V, ← jb5 c V, ← jb6 c V, ← jb7 c V, ← jb8 c V, ← jb9 c V, ← jb10 c V, ← jb11 c V, ← jb12 c V, ← jb16 c V, ← jb17 c V]
  rfl

/-! ### The results -/

/-- The weights that must be finite. -/
structure FinW : Prop where
  h1 : ∀ i, Fin' (m ((c.tc : Thread nD τ).loc main_arg1) i)
  h2 : ∀ i, Fin' (m ((c.tc : Thread nD τ).loc main_arg2) i)
  h3 : ∀ i, Fin' (m ((c.tc : Thread nD τ).loc main_arg3) i)
  h5 : ∀ i, Fin' (m ((c.tc : Thread nD τ).loc main_arg5) i)
  h9 : ∀ i, Fin' (m ((c.tc : Thread nD τ).loc main_arg9) i)
  h11 : ∀ i, Fin' (m ((c.tc : Thread nD τ).loc main_arg11) i)
  h15 : ∀ i, Fin' (m ((c.tc : Thread nD τ).loc main_arg15) i)
  h17 : ∀ i, Fin' (m ((c.tc : Thread nD τ).loc main_arg17) i)
  h7 : ∀ i, Fin' (m ((c.tc : Thread nD τ).loc main_arg7) i)
  h8 : ∀ i, Fin' (m ((c.tc : Thread nD τ).loc main_arg8) i)

variable (h : FinW m c)
include h
/-- The first stage's features are the model's. -/
theorem ft_eq (b : Fin 4) (k : Fin 1024) : feat (V1 m) c b k = (argsK m c).ft b k := by
  rw [feat_eq (V1 m) c (by rw [at1 m c main_arg1 (by decide)]; exact h.h1) (by rw [at1 m c main_arg3 (by decide)]; exact h.h3) (by rw [at1 m c main_arg5 (by decide)]; exact h.h5)
    (by rw [at1 m c main_arg7 (by decide)]; exact fun d => h.h7 _) (by rw [kv2]; exact h.h8 _), l1_eq, at1 m c main_arg0 (by decide)]
  rfl
theorem lg_eq (b : Fin 4) (n : Fin 4096) : logit (V1 m) c b n = (argsK m c).l1 b n := by
  rw [logit_eq (V1 m) c (by rw [at1 m c main_arg1 (by decide)]; exact h.h1) (by rw [at1 m c main_arg3 (by decide)]; exact h.h3) (by rw [at1 m c main_arg5 (by decide)]; exact h.h5), l1_eq]
theorem k5 (b : Fin 4) (k : Fin 1024) : V3 m (outs m) c main_v5 (ix2 b k) = (argsK m c).ft b k := (kv5 m c b k).trans (ft_eq m c h b k)
/-- The second stage's scores are the model's. -/
theorem l2_eq (t : Fin 4) : sc2 (V3 m (outs m) c main_v5) (V3 m (outs m) c main_arg2) (V3 m (outs m) c main_arg9) (V3 m (outs m) c main_arg11) (V3 m (outs m) c main_v7)
    (V3 m (outs m) c main_arg13) (V3 m (outs m) c main_v10) t = (argsK m c).l2 t := by
  funext b
  unfold sc2
  rw [funext (kv7_v m c), funext (kv7_u m c), kv10 m c, funext (k5 m c h b), at3 m c main_arg2 (by decide) (by decide) (by decide), at3 m c main_arg9 (by decide) (by decide) (by decide),
    at3 m c main_arg11 (by decide) (by decide) (by decide), at3 m c main_arg13 (by decide) (by decide) (by decide)]
  rfl
theorem V4_0 (b : Fin 4) (n : Fin 4096) : V4 m (outs m) c main_v17_0 (ix2 b n) = soft ((argsK m c).l1 b) n := by
  rw [V4_v17_0, arr18, ← V3_outs, res18_apply]
  congr 1
  funext n
  exact (kv4 m c b n).trans (lg_eq m c h b n)
theorem V4_1 (t b : Fin 4) : V4 m (outs m) c main_v17_1 (ix2 t b) = (argsK m c).at2 t b := by
  rw [V4_v17_1, arr19, ← V3_outs, res19_apply _ _ _ _ _ _ _ (by rw [at3 m c main_arg2 (by decide) (by decide) (by decide)]; exact h.h2) (by rw [at3 m c main_arg9 (by decide) (by decide) (by decide)]; exact h.h9)
    (by rw [at3 m c main_arg11 (by decide) (by decide) (by decide)]; exact h.h11), l2_eq m c h]
  rfl
theorem V4_2 (t : Fin 4) (k : Fin 2) : V4 m (outs m) c main_v17_2 (ix2 t k) = (argsK m c).cls t k := by
  rw [V4_v17_2, arr20, ← V3_outs, res20_apply _ _ _ _ _ _ _ (by rw [at3 m c main_arg2 (by decide) (by decide) (by decide)]; exact h.h2) (by rw [at3 m c main_arg9 (by decide) (by decide) (by decide)]; exact h.h9)
    (by rw [at3 m c main_arg11 (by decide) (by decide) (by decide)]; exact h.h11), funext (l2_eq m c h), at3 m c main_arg22 (by decide) (by decide) (by decide), funext fun b => funext (k5 m c h b)]
  have e : (fun d : Fin 1024 => if k.val < 1 then V3 m (outs m) c main_v13 (ix2 t d) else V3 m (outs m) c main_v15 (ix2 t d)) = (argsK m c).hw t k := by
    funext d
    match k with
    | ⟨0, _⟩ => exact (if_pos Nat.zero_lt_one).trans (kv13 m c t d)
    | ⟨1, _⟩ => exact (if_neg (Nat.lt_irrefl 1)).trans (kv15 m c t d)
  exact congrArg (fun w => heads _ _ w _ t) e
theorem V4_3 (k : Fin 2) : V4 m (outs m) c main_v17_3 (ix2 0 k) = (argsK m c).sld k := by
  rw [V4_v17_3, arr21, ← V3_outs, res21_apply _ _ _ _ _ _ _ (by rw [at3 m c main_arg2 (by decide) (by decide) (by decide)]; exact h.h2) (by rw [at3 m c main_arg9 (by decide) (by decide) (by decide)]; exact h.h9)
    (by rw [at3 m c main_arg11 (by decide) (by decide) (by decide)]; exact h.h11) _ _ _ _ _ _ _ (by rw [at3 m c main_arg15 (by decide) (by decide) (by decide)]; exact h.h15) (by rw [at3 m c main_arg17 (by decide) (by decide) (by decide)]; exact h.h17),
    funext (l2_eq m c h), funext fun b => funext (k5 m c h b), funext (kv9_v m c), funext (kv9_u m c), kv11, kv16, at3 m c main_arg15 (by decide) (by decide) (by decide), at3 m c main_arg17 (by decide) (by decide) (by decide),
    at3 m c main_arg19 (by decide) (by decide) (by decide), at3 m c main_arg23 (by decide) (by decide) (by decide)]
  rfl

/-- The kernel's results are the six of the model. -/
theorem kernel_is : Is (argsK m c) (V5 m (outs m) c main_v17_2) (V5 m (outs m) c main_v17_3) (V5 m (outs m) c main_v18) (V5 m (outs m) c main_v19) (V5 m (outs m) c main_v20)
    (V5 m (outs m) c main_v17_1) where
  h0 t k := (congrFun (V5_of m (outs m) c main_v17_2 (by decide)) _).trans (V4_2 m c h t k)
  h1 k := (congrFun (V5_of m (outs m) c main_v17_3 (by decide)) _).trans (V4_3 m c h k)
  h2 b n := by
    after_reads_at
    exact V4_0 m c h b n
  h3 i b := by
    after_reads_at
    exact V4_1 m c h _ b
  h4 i b := by
    after_reads_at
    exact V4_1 m c h _ b
  h5 t b := (congrFun (V5_of m (outs m) c main_v17_1 (by decide)) _).trans (V4_1 m c h t b)
end Cert.KernelIdeal.Hand
-- ==== Proof.VRef.lean ====
module

public import proofs.«01_k».proof.Proof.Gen.ReferenceIdeal.Run
public import proofs.«01_k».proof.Proof.VModel
public import Idealize.ShloMosaic.Lib.Pointwise

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic
open Cert.Value
open Idealize.SL Idealize.SL.RA Idealize.SL.BI
open Idealize.ShloMosaic.Pipeline (Dat RDat Cfg Window)

variable (V : Valuation τ sig (Elt Ideal))

/-- The reference's arguments. -/
def argsOf : Args where
  x b n k := V main_arg0 (ix4 0 b n k)
  w1 i j := V main_arg1 (ix2 i j)
  w2 i j := V main_arg2 (ix2 i j)
  v1 i j := V main_arg3 (ix2 i j)
  c1 i := V main_arg4 (ix1 i)
  u1 i j := V main_arg5 (ix2 i j)
  e1 i := V main_arg6 (ix1 i)
  a1 i := V main_arg7 (ix2 0 i)
  b1 := V main_arg8 (ix1 0)
  v2 i j := V main_arg9 (ix2 i j)
  c2 i := V main_arg10 (ix1 i)
  u2 i j := V main_arg11 (ix2 i j)
  e2 i := V main_arg12 (ix1 i)
  a2 i j := V main_arg13 (ix2 i j)
  b2 i := V main_arg14 (ix1 i)
  v3 i j := V main_arg15 (ix2 i j)
  c3 i := V main_arg16 (ix1 i)
  u3 i j := V main_arg17 (ix2 i j)
  e3 i := V main_arg18 (ix1 i)
  a3 i := V main_arg19 (ix2 0 i)
  b3 := V main_arg20 (ix1 0)
  hw t k d := V main_arg21 (ix3 t k d)
  hb t k := V main_arg22 (ix2 t k)
  sw k d := V main_arg23 (ix2 k d)
  sb k := V main_arg24 (ix1 k)

/-- A score with the products' factors in the other order. -/
theorem score_eq (h : Fin 1024 → EReal) (vw : Fin 128 → Fin 1024 → EReal) (vb : Fin 128 → EReal) (uw : Fin 128 → Fin 1024 → EReal) (ub : Fin 128 → EReal)
    (a : Fin 128 → EReal) (b : EReal) : score h vw vb uw ub a b
      = ∑ d, Ideal.tanh (∑ j, h j * vw d j + vb d) * Ideal.div 1 (1 + Ideal.exp (-(∑ j, h j * uw d j + ub d))) * a d + b := by
  unfold score
  refine congrArg (· + b) (Finset.sum_congr rfl fun d _ => ?_)
  rw [mul_comm]
  rfl

/-- The greatest entry of a row, from the fold over the row's fiber. -/
theorem top3 (v : S4x1x4096.Idx → EReal) (b : Fin 4) :
    max (Ideal.ofBits .f32 4286578688#32) (Finset.fold max (Ideal.ofBits .f32 0xFF800000#32) v {i | reducesTo_S4x1x4096_S4x1_d2.drop i = ix2 b 0}) = mx fun n => v (ix3 b 0 n) := by
  simp only [pointwise]
  rw [fold_max]
  simp [Ideal.ofBits, Ideal.ieee]
  rfl

theorem top2 (v : S4x4.Idx → EReal) (t : Fin 4) :
    max (Ideal.ofBits .f32 4286578688#32) (Finset.fold max (Ideal.ofBits .f32 0xFF800000#32) v {i | reducesTo_S4x4_S4_d1.drop i = ix1 t}) = mx fun n => v (ix2 t n) := by
  simp only [pointwise]
  rw [fold_max]
  simp [Ideal.ofBits, Ideal.ieee]
  rfl

theorem top1 (v : S1x2.Idx → EReal) :
    max (Ideal.ofBits .f32 4286578688#32) (Finset.fold max (Ideal.ofBits .f32 0xFF800000#32) v {i | reducesTo_S1x2_S1_d1.drop i = ix1 0}) = mx fun n => v (ix2 0 n) := by
  simp only [pointwise]
  rw [fold_max]
  simp [Ideal.ofBits, Ideal.ieee]
  rfl

theorem v29_apply (b : Fin 4) (n : Fin 4096) : res_main_v29 V (ix3 b 0 n) = (argsOf V).l1 b n := by
  unfold Args.l1
  rw [score_eq]
  pointwise [res_main_v29, res_main_v3, res_main_v0]
  rfl
theorem v36_apply (b : Fin 4) (n : Fin 4096) : res_main_v36 V (ix3 b 0 n) = ez ((argsOf V).l1 b) n := by
  pointwise [res_main_v36]
  unfold ez
  erw [top3]
  simp only [v29_apply]
theorem v46_apply (b : Fin 4) (k : Fin 1024) : res_main_v46 V (ix2 b k) = (argsOf V).ft b k := by
  pointwise [res_main_v46]
  simp only [Fin.sum_univ_one, v36_apply, div_one]
  pointwise [res_main_v0]
  rfl
theorem v73_apply (t b : Fin 4) : res_main_v73 V (ix2 t b) = (argsOf V).l2 t b := by
  unfold Args.l2
  rw [score_eq]
  pointwise [res_main_v73, res_main_v49]
  simp only [v46_apply]
  rfl
theorem v80_apply (t b : Fin 4) : res_main_v80 V (ix2 t b) = ez ((argsOf V).l2 t) b := by
  pointwise [res_main_v80]
  unfold ez
  erw [top2]
  simp only [v73_apply]
theorem v84_apply (t b : Fin 4) : res_main_v84 V (ix2 t b) = (argsOf V).at2 t b := by
  pointwise [res_main_v84]
  simp only [v80_apply]
  rfl
/-- The bags, as the sums of two attentions over two. -/
theorem bags_eq (A : Fin 4 → Fin 4 → EReal) (f : Fin 4 → Fin 1024 → EReal) (i : Fin 2) (k : Fin 1024) : bags A f i k
    = if h : i.val < 1 then ∑ x, Ideal.div (A 2 x + A 3 x) (Ideal.ofBits .f32 1073741824#32) * f x k
      else ∑ x, Ideal.div (A 0 x + A 1 x) (Ideal.ofBits .f32 1073741824#32) * f x k := by
  unfold bags mixed
  simp only [show Ideal.ofBits .f32 1073741824#32 = ((2 : ℝ) : EReal) from ofBits_two, mean2]
  by_cases h : i.val < 1
  · simp only [if_pos h, dif_pos h]
  · simp only [if_neg h, dif_neg h]
theorem v100_apply (i : Fin 2) (k : Fin 1024) : res_main_v100 V (ix2 i k) = bags (argsOf V).at2 (argsOf V).ft i k := by
  pointwise [res_main_v100]
  simp only [v46_apply, v84_apply, Fin.sum_univ_two]
  exact (bags_eq _ _ _ _).symm
theorem v124_apply (i : Fin 2) : res_main_v124 V (ix2 0 i)
    = score (bags (argsOf V).at2 (argsOf V).ft i) (argsOf V).v3 (argsOf V).c3 (argsOf V).u3 (argsOf V).e3 (argsOf V).a3 (argsOf V).b3 := by
  rw [score_eq]
  pointwise [res_main_v124]
  simp only [v100_apply]
  rfl
theorem v131_apply (i : Fin 2) : res_main_v131 V (ix2 0 i)
    = ez (fun i => score (bags (argsOf V).at2 (argsOf V).ft i) (argsOf V).v3 (argsOf V).c3 (argsOf V).u3 (argsOf V).e3 (argsOf V).a3 (argsOf V).b3) i := by
  pointwise [res_main_v131]
  unfold ez
  erw [top1]
  simp only [v124_apply]

/-! ### The results -/

/-- The classifiers' operations. -/
abbrev R0 (p : FVec Ideal S4x4 .f32) (f : FVec Ideal S4x1024 .f32) (w : FVec Ideal S4x2x1024 .f32) (b : FVec Ideal S4x2 .f32) : FVec Ideal S4x2 .f32 :=
  addf (Host.dotGeneral dot_S4x1024_S4x2x1024_S4x2_1_2_n_1_0_0 none (Host.dotGeneral dot_S4x4_S4x1024_S4x1024_1_0_0_1_n_n none p f : FVec Ideal S4x1024 .f32) w) b
/-- The slide's operations. -/
abbrev R1 (e : FVec Ideal S1x2 .f32) (g : FVec Ideal S2x1024 .f32) (w : FVec Ideal S2x1024 .f32) (b : FVec Ideal S2 .f32) : FVec Ideal S1x2 .f32 :=
  addf (Host.dotGeneral dot_S1x1024_S1024x2_S1x2_1_0_0_1_n_n none (Host.dotGeneral dot_S1x2_S2x1024_S1x1024_1_0_0_1_n_n none (Host.divf e (broadcastInDim S1x2 ![0, 1] bcast_S1x1_S1x2_0_1 (broadcastInDim S1x1 ![0] bcast_S1_S1x1_0 (Host.reduceAdd e (constant S_ .f32 0x00000000#32) reducesTo_S1x2_S1_d1 h_S_)))) g : FVec Ideal S1x1024 .f32) (transpose S1024x2 [1, 0] w transposes_S2x1024_S1024x2_1_0)) (broadcastInDim S1x2 ![1] bcast_S2_S1x2_1 b)
/-- The rows' normalisation. -/
abbrev R2 (e : FVec Ideal S4x1x4096 .f32) : FVec Ideal S4x1x4096 .f32 :=
  Host.divf e (broadcastInDim S4x1x4096 ![0, 1, 2] bcast_S4x1x1_S4x1x4096_0_1_2 (broadcastInDim S4x1x1 ![0, 1] bcast_S4x1_S4x1x1_0_1 (Host.reduceAdd e (constant S_ .f32 0x00000000#32) reducesTo_S4x1x4096_S4x1_d2 h_S_)))
/-- The first two slots' attention. -/
abbrev R3 (e : FVec Ideal S4x4 .f32) : FVec Ideal S2x4 .f32 := extractStridedSlice S2x4 ![0, 0] e slices_S4x4_S2x4_0_0
/-- The last two slots' attention. -/
abbrev R4 (e : FVec Ideal S4x4 .f32) : FVec Ideal S2x4 .f32 := extractStridedSlice S2x4 ![2, 0] e slices_S4x4_S2x4_2_0

theorem out0 (p : FVec Ideal S4x4 .f32) (f : FVec Ideal S4x1024 .f32) (w : FVec Ideal S4x2x1024 .f32) (b : FVec Ideal S4x2 .f32) (t : Fin 4) (k : Fin 2) :
    R0 p f w b (ix2 t k) = ∑ d, (∑ i, p (ix2 t i) * f (ix2 i d)) * w (ix3 t k d) + b (ix2 t k) := by
  pointwise
theorem out1 (e : FVec Ideal S1x2 .f32) (g : FVec Ideal S2x1024 .f32) (w : FVec Ideal S2x1024 .f32) (b : FVec Ideal S2 .f32) (k : Fin 2) :
    R1 e g w b (ix2 0 k) = ∑ d, (∑ i, Ideal.div (e (ix2 0 i)) (∑ i, e (ix2 0 i)) * g (ix2 i d)) * w (ix2 k d) + b (ix1 k) := by
  pointwise
theorem out2 (e : FVec Ideal S4x1x4096 .f32) (b : Fin 4) (n : Fin 4096) : R2 e (ix3 b 0 n) = Ideal.div (e (ix3 b 0 n)) (∑ n, e (ix3 b 0 n)) := by
  pointwise
theorem out3 (e : FVec Ideal S4x4 .f32) (i : Fin 2) (b : Fin 4) : R3 e (ix2 i b) = e (ix2 ⟨i.val, by omega⟩ b) := by
  pointwise
theorem out4 (e : FVec Ideal S4x4 .f32) (i : Fin 2) (b : Fin 4) : R4 e (ix2 i b) = e (ix2 ⟨2 + i.val, by omega⟩ b) := by
  pointwise

/-- The reference's results are the six of the model. -/
theorem ref_is : Is (argsOf V) (R0 (res_main_v84 V) (res_main_v46 V) (V main_arg21) (V main_arg22)) (R1 (res_main_v131 V) (res_main_v100 V) (V main_arg23) (V main_arg24))
    (R2 (res_main_v36 V)) (R3 (res_main_v84 V)) (R4 (res_main_v84 V)) (res_main_v84 V) where
  h0 t k := (out0 _ _ _ _ t k).trans (by simp only [v46_apply, v84_apply]; rfl)
  h1 k := (out1 _ _ _ _ k).trans (by simp only [v131_apply, v100_apply]; rfl)
  h2 b n := (out2 _ b n).trans (by simp only [v36_apply]; rfl)
  h3 i b := (out3 _ i b).trans (v84_apply V _ b)
  h4 i b := (out4 _ i b).trans (v84_apply V _ b)
  h5 t b := v84_apply V t b
end Cert.ReferenceIdeal.Hand
-- ==== Proof.VEnd.lean ====
module

public import proofs.«01_k».proof.Defs
public import proofs.«01_k».proof.Proof.Gen.ReferenceIdeal
public import proofs.«01_k».proof.Proof.Frames
public import proofs.«01_k».proof.Proof.VKernel
public import proofs.«01_k».proof.Proof.VRef

@[expose] public section

set_option maxRecDepth 16384

noncomputable section

namespace Cert.Value

open Idealize.ShloMosaic Idealize.SL.Sem

/-! ### The precondition -/

/-- An array that passes the comparison of `x - x` with zero has finite entries. -/
theorem fin_of_cmp {s : Shape} (v z : FVec Ideal s .f32) (hz : ∀ i, z i = (0 : EReal)) (h : cmpf .oeq (subf v v) z = fun _ => 1#1) (i : s.Idx) : Fin' (v i) := by
  have e : Ideal.cmp .oeq (v i - v i : EReal) (z i) = 1#1 := congrFun h i
  rw [hz i] at e
  refine fin_of_sub _ ?_
  by_contra hne
  simp [Ideal.cmp, hne] at e

/-- The side conditions of the precondition. -/
theorem preFacts : Cert.Pre_weights_finite.Facts := ⟨by decide, by decide, by decide, by decide⟩

theorem zero_bits : Ideal.ofBits .f32 0x00000000#32 = (0 : EReal) := by simp [Ideal.ofBits, Ideal.ieee]

/-- The weights named by the precondition are finite. -/
theorem finW (m : (ℓ : Loc Cert.KernelIdeal.nD Cert.KernelIdeal.τ Cert.KernelIdeal.sig) → Buf (Elt Ideal) ℓ) (h : Pre_KernelIdeal_weights_finite (hPre_weights_finite := preFacts) m)
    (c : Dev Cert.KernelIdeal.nD) : Cert.KernelIdeal.Hand.FinW m c := by
  obtain ⟨h1, h2, h3, h5, h9, h11, h15, h17, h7, h8⟩ := h c
  exact {
    h1 := fin_of_cmp _ _ (fun _ => zero_bits) h1
    h2 := fin_of_cmp _ _ (fun _ => zero_bits) h2
    h3 := fin_of_cmp _ _ (fun _ => zero_bits) h3
    h5 := fin_of_cmp _ _ (fun _ => zero_bits) h5
    h9 := fin_of_cmp _ _ (fun _ => zero_bits) h9
    h11 := fin_of_cmp _ _ (fun _ => zero_bits) h11
    h15 := fin_of_cmp _ _ (fun _ => zero_bits) h15
    h17 := fin_of_cmp _ _ (fun _ => zero_bits) h17
    h7 := fin_of_cmp _ _ (fun _ => zero_bits) h7
    h8 := fin_of_cmp _ _ (fun _ => zero_bits) h8
  }

/-! ### The claim -/

/-- The two programs' arguments read the same. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (h23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (h24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) :
    Cert.ReferenceIdeal.Hand.argsOf (StableHlo.launchContents m' c) = Cert.KernelIdeal.Hand.argsK m c := by
  unfold Cert.ReferenceIdeal.Hand.argsOf Cert.KernelIdeal.Hand.argsK
  congr 1
  · exact funext fun b => funext fun n => funext fun k => congrFun h0 (ix4 0 b n k)
  · exact funext fun i => funext fun j => congrFun h1 (ix2 i j)
  · exact funext fun i => funext fun j => congrFun h2 (ix2 i j)
  · exact funext fun i => funext fun j => congrFun h3 (ix2 i j)
  · exact funext fun i => congrFun h4 (ix1 i)
  · exact funext fun i => funext fun j => congrFun h5 (ix2 i j)
  · exact funext fun i => congrFun h6 (ix1 i)
  · exact funext fun i => congrFun h7 (ix2 0 i)
  · exact congrFun h8 (ix1 0)
  · exact funext fun i => funext fun j => congrFun h9 (ix2 i j)
  · exact funext fun i => congrFun h10 (ix1 i)
  · exact funext fun i => funext fun j => congrFun h11 (ix2 i j)
  · exact funext fun i => congrFun h12 (ix1 i)
  · exact funext fun i => funext fun j => congrFun h13 (ix2 i j)
  · exact funext fun i => congrFun h14 (ix1 i)
  · exact funext fun i => funext fun j => congrFun h15 (ix2 i j)
  · exact funext fun i => congrFun h16 (ix1 i)
  · exact funext fun i => funext fun j => congrFun h17 (ix2 i j)
  · exact funext fun i => congrFun h18 (ix1 i)
  · exact funext fun i => congrFun h19 (ix2 0 i)
  · exact congrFun h20 (ix1 0)
  · exact funext fun t => funext fun k => funext fun d => congrFun h21 (ix3 t k d)
  · exact funext fun t => funext fun k => congrFun h22 (ix2 t k)
  · exact funext fun k => funext fun d => congrFun h23 (ix2 k d)
  · exact funext fun k => congrFun h24 (ix1 k)

/-- From finite weights the two programs end with the same six results. -/
theorem algebraic : algebraic_KernelIdeal_ReferenceIdeal_pre_weights_finite (hKernelIdeal := Cert.KernelIdeal.Gen.facts) (hReferenceIdeal := Cert.ReferenceIdeal.Gen.facts)
    (hPre_weights_finite := preFacts) := by
  intro m g m' g' hpre hargs
  have hK := fun c => Cert.KernelIdeal.Hand.kernel_is m c (finW m hpre c)
  have hR := fun c : Dev Cert.KernelIdeal.nD => Cert.ReferenceIdeal.Hand.ref_is (StableHlo.launchContents m' c)
  have hA : ∀ c : Dev Cert.KernelIdeal.nD, Cert.ReferenceIdeal.Hand.argsOf (StableHlo.launchContents m' c) = Cert.KernelIdeal.Hand.argsK m c := fun c => by
    obtain ⟨h0, h1, h2, h3, h4, h5, h6, h7, h8, h9, h10, h11, h12, h13, h14, h15, h16, h17, h18, h19, h20, h21, h22, h23, h24⟩ := hargs c
    exact args_eq m m' c h0 h1 h2 h3 h4 h5 h6 h7 h8 h9 h10 h11 h12 h13 h14 h15 h16 h17 h18 h19 h20 h21 h22 h23 h24
  have hU := fun c => (hA c ▸ hR c).unique (hK c)
  refine ⟨_, _, _, _, _, _, θ_run_mono (Cert.KernelIdeal.Hand.run_results m g) fun r h c =>
    ⟨(h.1 c).1 _ rfl, (h.1 c).1 _ rfl, (h.1 c).1 _ rfl, (h.1 c).1 _ rfl, (h.1 c).1 _ rfl, (h.1 c).1 _ rfl, (h.1 c).2⟩,
    θ_run_mono (Cert.ReferenceIdeal.Value.run m' g') fun r h c => ?_⟩
  obtain ⟨e0, e1, e2, e3, e4, e5⟩ := hU c
  obtain ⟨r0, r1, r2, r3, r4, r5, hr⟩ := h c
  exact ⟨r0.trans e0, r1.trans e1, r2.trans e2, r3.trans e3, r4.trans e4, r5.trans e5, hr⟩

end Cert.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.FrameBits
public import proofs.«01_k».proof.Proof.VEnd
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Value.preFacts,
  fun m ρ _ => Cert.Kernel.Hand.framed m ρ,
  fun m ρ _ => Cert.KernelIdeal.Hand.frame m ρ,
  fun m ρ _ => Cert.KernelIdeal.Hand.frame m ρ,
  fun m ρ _ => θ_run_mono (Cert.ReferenceIdeal.Value.run m ρ) fun r h =>
    ⟨fun c => (h c).2.2.2.2.2.2, sem_eq_zero_of_no_sems (by decide) r.2⟩,
  fun m ρ _ => θ_run_mono (Cert.ReferenceIdeal.Value.run m ρ) fun r h =>
    ⟨fun c => (h c).2.2.2.2.2.2, sem_eq_zero_of_no_sems (by decide) r.2⟩,
  trivial,
  Cert.Value.algebraic⟩

end Cert.Proof

end
